-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x1152 : Shape := ⟨3, ![3, 2048, 1152]⟩
abbrev S3x2048x9 : Shape := ⟨3, ![3, 2048, 9]⟩
abbrev S1152x1920 : Shape := ⟨2, ![1152, 1920]⟩
abbrev S9x15 : Shape := ⟨2, ![9, 15]⟩
abbrev S1920 : Shape := ⟨1, ![1920]⟩
abbrev S6144x1152 : Shape := ⟨2, ![6144, 1152]⟩
abbrev S6144x9 : Shape := ⟨2, ![6144, 9]⟩
abbrev S1x1920 : Shape := ⟨2, ![1, 1920]⟩
abbrev S6144x1920 : Shape := ⟨2, ![6144, 1920]⟩
abbrev S6144x1 : Shape := ⟨2, ![6144, 1]⟩
abbrev S512x1152 : Shape := ⟨2, ![512, 1152]⟩
abbrev S512x9 : Shape := ⟨2, ![512, 9]⟩
abbrev S512x1920 : Shape := ⟨2, ![512, 1920]⟩
abbrev S512x1 : Shape := ⟨2, ![512, 1]⟩
abbrev S512x128 : Shape := ⟨2, ![512, 128]⟩
abbrev S1x1 : Shape := ⟨2, ![1, 1]⟩
abbrev S128x128 : Shape := ⟨2, ![128, 128]⟩
abbrev S1152x256 : Shape := ⟨2, ![1152, 256]⟩
abbrev S512x256 : Shape := ⟨2, ![512, 256]⟩
abbrev S1x256 : Shape := ⟨2, ![1, 256]⟩
abbrev S1152x128 : Shape := ⟨2, ![1152, 128]⟩
abbrev S1x128 : Shape := ⟨2, ![1, 128]⟩
abbrev S512 : Shape := ⟨1, ![512]⟩

abbrev nBuf : Space → Nat
  | .hbm => 10
  | .vmem => 15
  | .smem => 1
  | _ => 0

abbrev bufTy : (tb : Table) → Fin (tcTables nBuf tb) → BufTy
  | .hbm, ⟨0, _⟩ => ⟨S3x2048x1152, .fp8e4m3⟩
  | .hbm, ⟨1, _⟩ => ⟨S3x2048x9, .f32⟩
  | .hbm, ⟨2, _⟩ => ⟨S1152x1920, .fp8e4m3⟩
  | .hbm, ⟨3, _⟩ => ⟨S9x15, .f32⟩
  | .hbm, ⟨4, _⟩ => ⟨S1920, .bf16⟩
  | .hbm, ⟨5, _⟩ => ⟨S6144x1152, .fp8e4m3⟩
  | .hbm, ⟨6, _⟩ => ⟨S6144x9, .f32⟩
  | .hbm, ⟨7, _⟩ => ⟨S1x1920, .bf16⟩
  | .hbm, ⟨8, _⟩ => ⟨S6144x1920, .fp8e4m3⟩
  | .hbm, ⟨9, _⟩ => ⟨S6144x1, .f32⟩
  | .local _ .vmem, ⟨0, _⟩ => ⟨S512x1152, .fp8e4m3⟩
  | .local _ .vmem, ⟨1, _⟩ => ⟨S512x1152, .fp8e4m3⟩
  | .local _ .vmem, ⟨2, _⟩ => ⟨S512x9, .f32⟩
  | .local _ .vmem, ⟨3, _⟩ => ⟨S512x9, .f32⟩
  | .local _ .vmem, ⟨4, _⟩ => ⟨S1152x1920, .fp8e4m3⟩
  | .local _ .vmem, ⟨5, _⟩ => ⟨S1x1920, .bf16⟩
  | .local _ .vmem, ⟨6, _⟩ => ⟨S512x1920, .fp8e4m3⟩
  | .local _ .vmem, ⟨7, _⟩ => ⟨S512x1920, .fp8e4m3⟩
  | .local _ .vmem, ⟨8, _⟩ => ⟨S512x1, .f32⟩
  | .local _ .vmem, ⟨9, _⟩ => ⟨S512x1, .f32⟩
  | .local _ .vmem, ⟨10, _⟩ => ⟨S1152x1920, .bf16⟩
  | .local _ .vmem, ⟨11, _⟩ => ⟨S512x1152, .bf16⟩
  | .local _ .vmem, ⟨12, _⟩ => ⟨S512x1920, .f32⟩
  | .local _ .vmem, ⟨13, _⟩ => ⟨S512x128, .f32⟩
  | .local _ .vmem, ⟨14, _⟩ => ⟨S512x128, .f32⟩
  | .local _ .smem, ⟨0, _⟩ => ⟨S9x15, .f32⟩
  | _, _ => ⟨S3x2048x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

abbrev stage0_0 : Fin 2 → Memref sig .tc .vmem S512x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1152x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S9x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1920 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x2048x1152 : Shape := ⟨3, ![3, 2048, 1152]⟩
abbrev S3x2048x9 : Shape := ⟨3, ![3, 2048, 9]⟩
abbrev S1152x1920 : Shape := ⟨2, ![1152, 1920]⟩
abbrev S9x15 : Shape := ⟨2, ![9, 15]⟩
abbrev S1920 : Shape := ⟨1, ![1920]⟩
abbrev S6144x9 : Shape := ⟨2, ![6144, 9]⟩
abbrev S6144x9x128 : Shape := ⟨3, ![6144, 9, 128]⟩
abbrev S6144x1152 : Shape := ⟨2, ![6144, 1152]⟩
abbrev S9x128x15 : Shape := ⟨3, ![9, 128, 15]⟩
abbrev S1152x15 : Shape := ⟨2, ![1152, 15]⟩
abbrev S1152x15x128 : Shape := ⟨3, ![1152, 15, 128]⟩
abbrev S1x1920 : Shape := ⟨2, ![1, 1920]⟩
abbrev S6144x1920 : Shape := ⟨2, ![6144, 1920]⟩
abbrev S6144x1 : Shape := ⟨2, ![6144, 1]⟩
abbrev S6144 : Shape := ⟨1, ![6144]⟩
abbrev S1x254 : Shape := ⟨2, ![1, 254]⟩
abbrev S6144x254 : Shape := ⟨2, ![6144, 254]⟩

abbrev nBuf : Space → Nat
  | .hbm => 18
  | .vmem => 7
  | .smem => 0
  | _ => 0

abbrev bufTy : (tb : Table) → Fin (tcTables nBuf tb) → BufTy
  | .hbm, ⟨0, _⟩ => ⟨S3x2048x1152, .fp8e4m3⟩
  | .hbm, ⟨1, _⟩ => ⟨S3x2048x9, .f32⟩
  | .hbm, ⟨2, _⟩ => ⟨S1152x1920, .fp8e4m3⟩
  | .hbm, ⟨3, _⟩ => ⟨S9x15, .f32⟩
  | .hbm, ⟨4, _⟩ => ⟨S1920, .bf16⟩
  | .hbm, ⟨5, _⟩ => ⟨S6144x9, .f32⟩
  | .hbm, ⟨6, _⟩ => ⟨S6144x9, .bf16⟩
  | .hbm, ⟨7, _⟩ => ⟨S6144x9x128, .bf16⟩
  | .hbm, ⟨8, _⟩ => ⟨S6144x1152, .bf16⟩
  | .hbm, ⟨9, _⟩ => ⟨S9x15, .bf16⟩
  | .hbm, ⟨10, _⟩ => ⟨S9x128x15, .bf16⟩
  | .hbm, ⟨11, _⟩ => ⟨S1152x15, .bf16⟩
  | .hbm, ⟨12, _⟩ => ⟨S1152x15x128, .bf16⟩
  | .hbm, ⟨13, _⟩ => ⟨S1152x1920, .bf16⟩
  | .hbm, ⟨14, _⟩ => ⟨S6144x1152, .fp8e4m3⟩
  | .hbm, ⟨15, _⟩ => ⟨S1x1920, .bf16⟩
  | .hbm, ⟨16, _⟩ => ⟨S6144x1920, .fp8e4m3⟩
  | .hbm, ⟨17, _⟩ => ⟨S6144x1, .f32⟩
  | .local _ .vmem, ⟨0, _⟩ => ⟨S6144x1152, .fp8e4m3⟩
  | .local _ .vmem, ⟨1, _⟩ => ⟨S6144x1152, .bf16⟩
  | .local _ .vmem, ⟨2, _⟩ => ⟨S1152x1920, .fp8e4m3⟩
  | .local _ .vmem, ⟨3, _⟩ => ⟨S1152x1920, .bf16⟩
  | .local _ .vmem, ⟨4, _⟩ => ⟨S1x1920, .bf16⟩
  | .local _ .vmem, ⟨5, _⟩ => ⟨S6144x1920, .fp8e4m3⟩
  | .local _ .vmem, ⟨6, _⟩ => ⟨S6144x1, .f32⟩
  | _, _ => ⟨S3x2048x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1920 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KnRuns.lean ====
/- Of `proofs.«01_k».proof.Kernel`: what the runs of the kernel's body share: @main up to its one region, the arrays there, the conditions of the
   body in closed form over the points, the staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_0, e0]
    word_cmp
   : ∀ t : Fin grid0.N, cond0_0 (grid0.coords t) ↔ t.val % 13 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x1152 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S9x15 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1920 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1920 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1152x1920 .bf16 := Memref.whole cc0_scratch0
abbrev scM0_1 : Memref sig .tc .vmem S512x1152 .bf16 := Memref.whole cc0_scratch1
abbrev scM0_2 : Memref sig .tc .vmem S512x1920 .f32 := Memref.whole cc0_scratch2
abbrev scM0_3 : Memref sig .tc .vmem S512x128 .f32 := Memref.whole cc0_scratch3
abbrev scM0_4 : Memref sig .tc .vmem S512x128 .f32 := Memref.whole cc0_scratch4
/-- The scratch `arg8` the kernel carries between points, as a view: what it holds is stated through it. -/
abbrev VS0_0 : View sig .tc .vmem S1152x1920 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Whole

end
-- ==== Proof.KnRunA.lean ====
/- Of `proofs.«01_k».proof.Kernel`: the whole body run at the first grid point. -/
module

public import proofs.«01_k».proof.Proof.KnRuns

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3836000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6) at anything, handed back at some contents nothing names. -/
noncomputable def kernelRun0_A (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : cond0_0 i)
    (x0 : Vec F S512x1152 .fp8e4m3) (x1 : Vec F S512x9 .f32) (x2 : Vec F S1152x1920 .fp8e4m3) (x3 : Vec F S9x15 .f32) (x4 : Vec F S1x1920 .bf16) :
    { LS0 : List (View.Piece (Elt F) S1152x1920 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_fp8_linear_gelu_quant i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_fp8_linear_gelu_quant_eq_skeleton]; unfold cc0_fp8_linear_gelu_quant_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Whole

end
-- ==== Proof.KnRunB.lean ====
/- Of `proofs.«01_k».proof.Kernel`: the whole body run at every later grid point. -/
module

public import proofs.«01_k».proof.Proof.KnRunA

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 12: 12 of 13), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6) at anything, handed back at some contents nothing names. -/
noncomputable def kernelRun0_B (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x2 : Vec F S1152x1920 .fp8e4m3) (x3 : Vec F S9x15 .f32) (x4 : Vec F S1x1920 .bf16) (xs0 : Vec F S1152x1920 .bf16) :
    { LS0 : List (View.Piece (Elt F) S1152x1920 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_fp8_linear_gelu_quant i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_fp8_linear_gelu_quant_eq_skeleton]; unfold cc0_fp8_linear_gelu_quant_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Whole

end
-- ==== Proof.KnFrame.lean ====
/- Of `proofs.«01_k».proof.Kernel`: the frame of the kernel at any float instance: it terminates without fault, leaves its arguments as
   they were and every counter at zero; of what it leaves in its two results nothing is said here. -/
module

public import proofs.«01_k».proof.Proof.KnRunB
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: 135 pieces of `S128x128` tiling it (Lib/Ring.lean `Piece.tiledL`). -/
theorem scover0_A_0 (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : cond0_0 i)
    (x0 : Vec F S512x1152 .fp8e4m3) (x1 : Vec F S512x9 .f32) (x2 : Vec F S1152x1920 .fp8e4m3) (x3 : Vec F S9x15 .f32) (x4 : Vec F S1x1920 .bf16) (y : S1152x1920.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S128x128.size (by sl_kernel_rfl) y

/-- What case A leaves in scratch `arg8`: its pieces read back over junk. -/
def sout0_A_0 (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : cond0_0 i)
    (x0 : Vec F S512x1152 .fp8e4m3) (x1 : Vec F S512x9 .f32) (x2 : Vec F S1152x1920 .fp8e4m3) (x3 : Vec F S9x15 .f32) (x4 : Vec F S1x1920 .bf16) : Vec F S1152x1920 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case B stores nothing into scratch `arg8`: it holds what the point before left. -/
def sout0_B_0 (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x2 : Vec F S1152x1920 .fp8e4m3) (x3 : Vec F S9x15 .f32) (x4 : Vec F S1x1920 .bf16) (xs0 : Vec F S1152x1920 .bf16) : Vec F S1152x1920 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1152x1920 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 13 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 13 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 13 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (5, 6): nothing reads what the kernel leaves in them, so nothing
    of it is named (Lib/Pipeline/Dat.lean `Dat.toRForget`). -/
def forgets0 : Fin 7 → Bool := fun w => w.val == 5 || w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 13 := lt_of_lt_of_eq t.isLt (show cfg0.N = 13 from N_0)
  by_cases h0 : t.val % 13 = 0
  · by_cases hz : t.val = 0
    · rw [PhiS_castSucc m c t, PhiS_zero m c _ _ hz, PhiA0_eq]
      rw [outsAt0_A m c t h0]
      unfold sout0_A_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · exfalso; have hN : t.val < 13 := lt_of_lt_of_eq t.isLt (show cfg0.N = 13 from N_0); omega
  · by_cases hz : t.val = 0
    · exfalso; have hN : t.val < 13 := lt_of_lt_of_eq t.isLt (show cfg0.N = 13 from N_0); omega
    · rw [PhiS_castSucc m c t, PhiS_pos m c _ _ hz]
      rw [outsAt0_B m c t h0]
      unfold sout0_B_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 13 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Whole

end
-- ==== Proof.RowFns.lean ====
module

public import Idealize.ShloMosaic.PureOps.Ideal.Laws
public import Idealize.ShloMosaic.Lib.ValueIdxCore
public import Mathlib.Tactic.NormNum
public import Mathlib.Tactic.Ring
public import Mathlib.Analysis.SpecialFunctions.Pow.Real

@[expose] public section

noncomputable section

namespace Cert.RowFns

open Idealize.ShloMosaic
open scoped BigOperators

/-- The word of a power of two as the kernel builds it: exponent field `b`, fraction zero. -/
def pw (b : BitVec 32) : EReal := Ideal.ofBits .f32 (IntOp.shli .vector b 23#32)

/-- `pw` at a number. -/
def thr (t : ℕ) : EReal := pw (BitVec.ofNat 32 t)

theorem shl23 (b : BitVec 32) : IntOp.shli .vector b 23#32 = b <<< 23 := by
  simp [IntOp.shli]

/-- Between the exponent fields 1 and 254 `thr` is the power of two. -/
theorem thr_eq (t : ℕ) (h1 : 1 ≤ t) (h2 : t ≤ 254) : thr t = (((2 : ℝ) ^ ((t : ℤ) - 127) : ℝ) : EReal) := by
  have hx : (BitVec.ofNat 32 t <<< 23).toNat = t * 2 ^ 23 := by
    simp only [BitVec.toNat_shiftLeft, BitVec.toNat_ofNat, Nat.shiftLeft_eq]
    rw [Nat.mod_eq_of_lt (a := t) (by omega)]
    exact Nat.mod_eq_of_lt (by omega)
  have e1 : ((BitVec.ofNat 32 t <<< 23).extractLsb' 23 8).toNat = t := by
    rw [BitVec.extractLsb'_toNat, hx, Nat.shiftRight_eq_div_pow]
    omega
  have e2 : ((BitVec.ofNat 32 t <<< 23).extractLsb' 0 23).toNat = 0 := by
    rw [BitVec.extractLsb'_toNat, hx, Nat.shiftRight_eq_div_pow]
    omega
  have e3 : ((BitVec.ofNat 32 t <<< 23).extractLsb' 31 1).toNat = 0 := by
    rw [BitVec.extractLsb'_toNat, hx, Nat.shiftRight_eq_div_pow]
    omega
  have e3' : ((BitVec.ofNat 32 t <<< 23).extractLsb' 31 1 == 1#1) = false := by
    rw [beq_eq_false_iff_ne]; intro h; rw [h] at e3; simp at e3
  unfold thr pw
  rw [shl23]
  show Ideal.ieee 8 23 (BitVec.ofNat 32 t <<< 23) = _
  unfold Ideal.ieee
  simp only [e1, e2, e3', Nat.reduceAdd, Nat.reduceSub, Nat.reducePow]
  rw [if_neg (by omega), if_neg (by omega)]
  refine congrArg _ ?_
  have h3 : (t : ℤ) - 127 = ((t : ℤ) - (2 ^ 7 - 1) - 23) + 23 := by ring
  rw [h3, zpow_add₀ (by norm_num : (2 : ℝ) ≠ 0)]
  generalize (2 : ℝ) ^ ((t : ℤ) - (2 ^ 7 - 1) - 23) = q
  norm_num [mul_comm]

theorem thr_zero : thr 0 = 0 := by
  unfold thr pw; rw [shl23]; simp [Ideal.ofBits, Ideal.ieee, -EReal.coe_mul]

theorem thr_top : thr 255 = ⊤ := by
  have e : IntOp.shli .vector (BitVec.ofNat 32 255) 23#32 = 0x7F800000#32 := by decide
  unfold thr pw; rw [e]; simp [Ideal.ofBits, Ideal.ieee, -EReal.coe_mul]

/-- `thr` is increasing from the exponent field 1 up. -/
theorem thr_mono (s t : ℕ) (h1 : 1 ≤ s) (hst : s ≤ t) (h2 : t ≤ 255) : thr s ≤ thr t := by
  rcases Nat.lt_or_ge t 255 with h | h
  · rw [thr_eq s h1 (by omega), thr_eq t (by omega) (by omega)]
    exact EReal.coe_le_coe_iff.mpr (zpow_le_zpow_right₀ (by norm_num) (by omega))
  · obtain rfl : t = 255 := by omega
    rw [thr_top]; exact le_top

/-- The exponent field of `y`: the last `t` with `thr t ≤ y`, or zero. -/
theorem exists_exp (y : EReal) : ∃ E : ℕ, E ≤ 255 ∧ ∀ t : ℕ, 1 ≤ t → t ≤ 255 → (thr t ≤ y ↔ t ≤ E) := by
  classical
  refine ⟨Nat.findGreatest (fun t => 1 ≤ t ∧ thr t ≤ y) 255, Nat.findGreatest_le 255, fun t h1 h2 => ⟨fun h => ?_, fun h => ?_⟩⟩
  · exact Nat.le_findGreatest h2 ⟨h1, h⟩
  · have hs := @Nat.findGreatest_of_ne_zero (Nat.findGreatest (fun t => 1 ≤ t ∧ thr t ≤ y) 255) (fun t => 1 ≤ t ∧ thr t ≤ y) _ 255 rfl (by omega)
    exact (thr_mono t _ h1 h (Nat.findGreatest_le 255)).trans hs.2

/-- The exact activation, as both sides spell it. -/
def gel (z : EReal) : EReal :=
  (Ideal.ofBits .f32 0x3F000000#32 * z) * (Ideal.ofBits .f32 0x3F800000#32 + Ideal.erf (z * Ideal.ofBits .f32 0x3F3504F3#32))

/-- Clipping to the code format's finite range. -/
def clip (v : EReal) : EReal := min (Ideal.ofBits .f32 0x43E00000#32) (max (Ideal.ofBits .f32 0xC3E00000#32) v)

/-! ## The kernel's search, bit by bit -/

/-- One step of the search: try to add `d` to the field `b`. -/
def stp (y : EReal) (b d : BitVec 32) : BitVec 32 :=
  Scalar.select (Ideal.cmp .oge y (pw (IntOp.addi b d))) (IntOp.addi b d) b

/-- The eight steps. -/
def kBits (y : EReal) : BitVec 32 :=
  stp y (stp y (stp y (stp y (stp y (stp y (stp y (stp y 0#32 128#32) 64#32) 32#32) 16#32) 8#32) 4#32) 2#32) 1#32

theorem stp_spec {y : EReal} {E : ℕ} (hE : ∀ t : ℕ, 1 ≤ t → t ≤ 255 → (thr t ≤ y ↔ t ≤ E)) (b d : ℕ) (hd : 1 ≤ d) (hbd : b + d ≤ 255) :
    stp y (BitVec.ofNat 32 b) (BitVec.ofNat 32 d) = BitVec.ofNat 32 (if b + d ≤ E then b + d else b) := by
  have ha : IntOp.addi (BitVec.ofNat 32 b) (BitVec.ofNat 32 d) = BitVec.ofNat 32 (b + d) := (BitVec.ofNat_add b d).symm
  unfold stp
  rw [ha]
  show Scalar.select (BitVec.ofBool (decide (thr (b + d) ≤ y))) _ _ = _
  by_cases h : b + d ≤ E
  · rw [if_pos h, decide_eq_true ((hE _ (by omega) hbd).mpr h)]; rfl
  · rw [if_neg h, decide_eq_false (fun h' => h ((hE _ (by omega) hbd).mp h'))]; rfl

theorem kBits_eq {y : EReal} {E : ℕ} (h255 : E ≤ 255) (hE : ∀ t : ℕ, 1 ≤ t → t ≤ 255 → (thr t ≤ y ↔ t ≤ E)) :
    kBits y = BitVec.ofNat 32 E := by
  -- one step keeps `b ≤ E < b + 2 d` as `b' ≤ E < b' + d`
  have step : ∀ (b d : ℕ), 1 ≤ d → b + d ≤ 255 → b ≤ E → E < b + 2 * d →
      ∃ b', stp y (BitVec.ofNat 32 b) (BitVec.ofNat 32 d) = BitVec.ofNat 32 b' ∧ b' ≤ E ∧ E < b' + d ∧ b' ≤ b + d := by
    intro b d hd hbd hl hu
    refine ⟨_, stp_spec hE b d hd hbd, ?_⟩
    split <;> omega
  obtain ⟨b1, e1, l1, u1, m1⟩ := step 0 128 (by omega) (by omega) (by omega) (by omega)
  obtain ⟨b2, e2, l2, u2, m2⟩ := step b1 64 (by omega) (by omega) (by omega) (by omega)
  obtain ⟨b3, e3, l3, u3, m3⟩ := step b2 32 (by omega) (by omega) (by omega) (by omega)
  obtain ⟨b4, e4, l4, u4, m4⟩ := step b3 16 (by omega) (by omega) (by omega) (by omega)
  obtain ⟨b5, e5, l5, u5, m5⟩ := step b4 8 (by omega) (by omega) (by omega) (by omega)
  obtain ⟨b6, e6, l6, u6, m6⟩ := step b5 4 (by omega) (by omega) (by omega) (by omega)
  obtain ⟨b7, e7, l7, u7, m7⟩ := step b6 2 (by omega) (by omega) (by omega) (by omega)
  obtain ⟨b8, e8, l8, u8, m8⟩ := step b7 1 (by omega) (by omega) (by omega) (by omega)
  unfold kBits
  rw [e1, e2, e3, e4, e5, e6, e7, e8]
  congr 1; omega

/-- The kernel's unbiased exponent. -/
def kExp (y : EReal) : BitVec 32 :=
  Scalar.select (Ideal.cmp .oeq y (Ideal.ofBits .f32 0x00000000#32)) 0#32 (IntOp.subi (kBits y) 126#32)
/-- The kernel's scale. -/
def kScale (y : EReal) : EReal := pw (IntOp.addi 127#32 (kExp y))
/-- The kernel's inverse scale. -/
def kInv (y : EReal) : EReal := pw (IntOp.subi 127#32 (kExp y))

/-! ## The reference's count -/

/-- The reference's count of the powers of two that `y` reaches. -/
def rCount (y : EReal) : EReal :=
  ∑ k : Fin 254, Scalar.select (Ideal.cmp .oge y (Ideal.exp2 ((((BitVec.ofNat 32 k.val).toInt : ℝ) : EReal) - Ideal.ofBits .f32 0x42FC0000#32)))
    (Ideal.ofBits .f32 0x3F800000#32) (Ideal.ofBits .f32 0x00000000#32)
/-- The reference's exponent. -/
def rExp (a y : EReal) : EReal :=
  Scalar.select (Ideal.cmp .oeq a (Ideal.ofBits .f32 0x00000000#32)) (Ideal.ofBits .f32 0x00000000#32) (rCount y - Ideal.ofBits .f32 0x42FC0000#32)
/-- The reference's scale. -/
def rScale (a y : EReal) : EReal :=
  Scalar.select (Ideal.cmp .olt y (Ideal.ofBits .f32 0x7F000000#32)) (Ideal.exp2 (rExp a y))
    (Scalar.select (Ideal.cmp .olt y (Ideal.ofBits .f32 0x7F800000#32)) (Ideal.ofBits .f32 0x7F800000#32) (Ideal.ofBits .f32 0x00000000#32))
/-- The reference's inverse scale. -/
def rInv (a y : EReal) : EReal :=
  Scalar.select (Ideal.cmp .olt y (Ideal.ofBits .f32 0x7E800000#32)) (Ideal.exp2 (Ideal.ofBits .f32 0x00000000#32 - rExp a y))
    (Scalar.select (Ideal.cmp .olt y (Ideal.ofBits .f32 0x7F000000#32)) (Ideal.ofBits .f32 0x00000000#32)
      (Scalar.select (Ideal.cmp .olt y (Ideal.ofBits .f32 0x7F800000#32)) (Ideal.ofBits .f32 0xFF800000#32) (Ideal.ofBits .f32 0xFF000000#32)))

theorem w0 : Ideal.ofBits .f32 0x00000000#32 = 0 := by simp [Ideal.ofBits, Ideal.ieee, -EReal.coe_mul]
theorem w1 : Ideal.ofBits .f32 0x3F800000#32 = 1 := by
  have h := thr_eq 127 (by omega) (by omega)
  unfold thr pw at h; rw [shl23] at h
  exact h.trans (by norm_num)
theorem w126 : Ideal.ofBits .f32 0x42FC0000#32 = ((126 : ℝ) : EReal) := by
  simp [Ideal.ofBits, Ideal.ieee, -EReal.coe_mul]; norm_num
theorem wNegZero : Ideal.ofBits .f32 0x80000000#32 = 0 := by simp [Ideal.ofBits, Ideal.ieee, -EReal.coe_mul]
theorem wc_pos : ∃ c : ℝ, 0 < c ∧ Ideal.ofBits .f32 0x3B124925#32 = (c : EReal) := by
  refine ⟨_, ?_, by simp [Ideal.ofBits, Ideal.ieee, -EReal.coe_mul]; rfl⟩
  norm_num
theorem wBot : Ideal.ofBits .f32 0xFF800000#32 = ⊥ := by simp [Ideal.ofBits, Ideal.ieee, -EReal.coe_mul]

theorem sel_true {α : Type} (p : Prop) [Decidable p] (h : p) (a b : α) : Scalar.select (BitVec.ofBool (decide p)) a b = a := by
  rw [decide_eq_true h]; rfl
theorem sel_false {α : Type} (p : Prop) [Decidable p] (h : ¬p) (a b : α) : Scalar.select (BitVec.ofBool (decide p)) a b = b := by
  rw [decide_eq_false h]; rfl

theorem rCount_eq {y : EReal} {E : ℕ} (h255 : E ≤ 255) (hE : ∀ t : ℕ, 1 ≤ t → t ≤ 255 → (thr t ≤ y ↔ t ≤ E)) :
    rCount y = (((min E 254 : ℕ) : ℝ) : EReal) := by
  have hk : ∀ k : Fin 254, Scalar.select (Ideal.cmp .oge y (Ideal.exp2 ((((BitVec.ofNat 32 k.val).toInt : ℝ) : EReal) - Ideal.ofBits .f32 0x42FC0000#32)))
      (Ideal.ofBits .f32 0x3F800000#32) (Ideal.ofBits .f32 0x00000000#32) = (((if k.val < E then 1 else 0 : ℝ)) : EReal) := by
    intro k
    have hp : Ideal.exp2 ((((BitVec.ofNat 32 k.val).toInt : ℝ) : EReal) - Ideal.ofBits .f32 0x42FC0000#32) = thr (k.val + 1) := by
      have hi : (BitVec.ofNat 32 k.val).toInt = (k.val : ℤ) := by
        have := k.isLt
        rw [BitVec.toInt_eq_toNat_of_lt (by rw [BitVec.toNat_ofNat]; omega), BitVec.toNat_ofNat, Nat.mod_eq_of_lt (by omega)]
      rw [w126, hi, ← EReal.coe_sub, Ideal.exp2_coe, thr_eq _ (by omega) (by have := k.isLt; omega)]
      congr 1
      rw [show ((k.val : ℤ) : ℝ) - 126 = (((k.val + 1 : ℕ) : ℤ) - 127 : ℤ) by push_cast; ring]
      exact Real.rpow_intCast 2 _
    rw [hp, w1, w0]
    show Scalar.select (BitVec.ofBool (decide (thr (k.val + 1) ≤ y))) _ _ = _
    by_cases h : k.val < E
    · rw [if_pos h, sel_true _ ((hE _ (by omega) (by have := k.isLt; omega)).mpr h)]; rfl
    · rw [if_neg h, sel_false _ (fun h' => h ((hE _ (by omega) (by have := k.isLt; omega)).mp h'))]; rfl
  unfold rCount
  rw [Finset.sum_congr rfl fun k _ => hk k]
  rw [show (∑ k : Fin 254, (((if k.val < E then 1 else 0 : ℝ)) : EReal)) = ((∑ k : Fin 254, (if k.val < E then 1 else 0 : ℝ) : ℝ) : EReal) from
    (map_sum (⟨⟨((↑) : ℝ → EReal), EReal.coe_zero⟩, EReal.coe_add⟩ : ℝ →+ EReal) _ _).symm]
  congr 1
  rw [Finset.sum_boole]
  congr 1
  rw [Fin.card_filter_val_lt]
  exact Nat.min_comm _ _

theorem exp2_int (n : ℤ) : Ideal.exp2 (((n : ℝ)) : EReal) = (((2 : ℝ) ^ n : ℝ) : EReal) := by
  rw [Ideal.exp2_coe]; congr 1; exact Real.rpow_intCast 2 n

/-- The two scales agree, and the two inverse scales. -/
theorem scale_inv_eq (a : EReal) : kScale (a * Ideal.ofBits .f32 0x3B124925#32) = rScale a (a * Ideal.ofBits .f32 0x3B124925#32)
    ∧ kInv (a * Ideal.ofBits .f32 0x3B124925#32) = rInv a (a * Ideal.ofBits .f32 0x3B124925#32) := by
  obtain ⟨c, hc, hcw⟩ := wc_pos
  have hz : a * Ideal.ofBits .f32 0x3B124925#32 = 0 ↔ a = 0 := by
    rw [hcw, mul_eq_zero]
    exact ⟨fun h => h.resolve_right (by exact_mod_cast hc.ne'), Or.inl⟩
  generalize a * Ideal.ofBits .f32 0x3B124925#32 = y at hz ⊢
  have p126 : Ideal.ofBits .f32 0x7E800000#32 = thr 253 := by unfold thr pw; rw [shl23]; rfl
  have p127 : Ideal.ofBits .f32 0x7F000000#32 = thr 254 := by unfold thr pw; rw [shl23]; rfl
  have pinf : Ideal.ofBits .f32 0x7F800000#32 = thr 255 := by unfold thr pw; rw [shl23]; rfl
  obtain ⟨E, h255, hE⟩ := exists_exp y
  have hlt : ∀ t, 1 ≤ t → t ≤ 255 → (y < thr t ↔ E < t) := fun t h1 h2 => by
    rw [← not_le, hE t h1 h2, not_le]
  have hcmp : ∀ t {α : Type} (u v : α), Scalar.select (Ideal.cmp .olt y (thr t)) u v = if y < thr t then u else v := by
    intro t α u v
    show Scalar.select (BitVec.ofBool (decide (y < thr t))) u v = _
    by_cases h : y < thr t
    · rw [if_pos h, sel_true _ h]
    · rw [if_neg h, sel_false _ h]
  unfold rScale rInv
  rw [p126, p127, pinf]
  simp only [hcmp]
  simp only [hlt 253 (by omega) (by omega), hlt 254 (by omega) (by omega), hlt 255 (by omega) (by omega)]
  by_cases hy : y = 0
  · have ha := hz.mp hy
    have hE0 : E < 253 := by
      rw [← hlt 253 (by omega) (by omega), hy, thr_eq 253 (by omega) (by omega)]
      exact_mod_cast (by positivity : (0 : ℝ) < 2 ^ (((253 : ℕ) : ℤ) - 127))
    have ke : kExp y = 0#32 := by unfold kExp; rw [w0]; exact sel_true _ hy _ _
    have re : rExp a y = 0 := by unfold rExp; rw [w0]; exact sel_true _ ha _ _
    have h1 : thr 127 = 1 := by rw [thr_eq _ (by omega) (by omega)]; norm_num
    rw [if_pos (by omega), if_pos hE0]
    unfold kScale kInv
    rw [ke, re, w0]
    have e0 : Ideal.exp2 0 = 1 := by
      have := exp2_int 0
      simpa using this
    rw [sub_zero, e0]
    exact ⟨h1, h1⟩
  · have ke : kExp y = IntOp.subi (BitVec.ofNat 32 E) 126#32 := by
      unfold kExp; rw [w0, kBits_eq h255 hE]; exact sel_false _ hy _ _
    have re : rExp a y = (((((min E 254 : ℕ) : ℤ) - 126 : ℤ) : ℝ) : EReal) := by
      unfold rExp
      rw [w0, rCount_eq h255 hE, w126]
      refine (sel_false _ (fun h => hy (hz.mpr h)) _ _).trans ?_
      rw [← EReal.coe_sub]; congr 1; push_cast; ring
    unfold kScale kInv
    rw [ke, re, w0, zero_sub, ← EReal.coe_neg, exp2_int, show (-(((((min E 254 : ℕ) : ℤ) - 126 : ℤ)) : ℝ)) = ((126 - ((min E 254 : ℕ) : ℤ) : ℤ) : ℝ) by push_cast; ring, exp2_int]
    have ks : IntOp.addi 127#32 (IntOp.subi (BitVec.ofNat 32 E) 126#32) = BitVec.ofNat 32 (E + 1) := by
      apply BitVec.eq_of_toNat_eq
      simp only [IntOp.addi, IntOp.subi, BitVec.toNat_add, BitVec.toNat_sub, BitVec.toNat_ofNat]
      omega
    rw [ks]
    by_cases h1 : E < 253
    · have ki : IntOp.subi 127#32 (IntOp.subi (BitVec.ofNat 32 E) 126#32) = BitVec.ofNat 32 (253 - E) := by
        apply BitVec.eq_of_toNat_eq
        simp only [IntOp.addi, IntOp.subi, BitVec.toNat_add, BitVec.toNat_sub, BitVec.toNat_ofNat]
        omega
      rw [ki, if_pos h1, if_pos (by omega)]
      refine ⟨(thr_eq (E + 1) (by omega) (by omega)).trans ?_, (thr_eq (253 - E) (by omega) (by omega)).trans ?_⟩
      · congr 2; omega
      · congr 2; omega
    · have hcases : E = 253 ∨ E = 254 ∨ E = 255 := by omega
      rcases hcases with rfl | rfl | rfl
      · refine ⟨(thr_eq 254 (by omega) (by omega)).trans ?_, ?_⟩
        · rw [if_pos (by omega)]; congr 2
        · rw [if_neg (by omega), if_pos (by omega)]
          exact thr_zero
      · refine ⟨?_, ?_⟩
        · rw [if_neg (by omega), if_pos (by omega)]; rfl
        · rw [if_neg (by omega), if_neg (by omega), if_pos (by omega)]
          unfold pw; rw [shl23]; rfl
      · refine ⟨?_, ?_⟩
        · rw [if_neg (by omega), if_neg (by omega)]
          unfold pw; rw [shl23]; exact wNegZero
        · rw [if_neg (by omega), if_neg (by omega), if_neg (by omega)]
          unfold pw; rw [shl23]; rfl

end Cert.RowFns

end
-- ==== Proof.Spec.lean ====
module

public import proofs.«01_k».proof.Proof.RowFns
public import Idealize.ShloMosaic.Lib.ValueIdx

@[expose] public section

noncomputable section

/-! # The function both programs compute

Plain formulas over the extended reals, of the arrays that both programs hand to their one call: the activations and their
scales flattened to one row for each position, the weights and their scales, and the bias as one row. -/

namespace Cert.Spec

open Idealize.ShloMosaic
open Idealize.ShloMosaic.ValueIdx
open scoped BigOperators

/-- A matrix of extended reals. -/
abbrev Mat (a b : ℕ) : Type := (⟨2, ![a, b]⟩ : Shape).Idx → EReal

/-- The hidden activation at row `r` and column `n`: the product of the scaled activations and the scaled weights, one scale
    for each group of 128, plus the bias, through GELU. -/
def hidden (X : Mat 6144 1152) (XS : Mat 6144 9) (W : Mat 1152 1920) (WS : Mat 9 15) (B : Mat 1 1920) (r : Fin 6144) (n : Fin 1920) : EReal :=
  Cert.RowFns.gel ((∑ k : Fin 1152, (X (ix2 r k) * XS (ix2 r ⟨k.val / 128, by omega⟩))
    * (W (ix2 k n) * WS (ix2 ⟨k.val / 128, by omega⟩ ⟨n.val / 128, by omega⟩))) + B (ix2 0 n))

/-- The largest absolute value of a row. -/
def rowMax (h : Fin 1920 → EReal) : EReal := Finset.univ.sup fun n => max (h n) (-(h n))

/-- The quantiser's argument: the row's largest absolute value times the constant 1/448. -/
def level (h : Fin 1920 → EReal) : EReal := rowMax h * Ideal.ofBits .f32 0x3B124925#32

/-- The codes of all rows `H`. -/
def codes (H : Fin 6144 → Fin 1920 → EReal) : Mat 6144 1920 :=
  fun i => Cert.RowFns.clip (H (i 0) (i 1) * Cert.RowFns.kInv (level (H (i 0))))

/-- The scales of all rows `H`. -/
def scales (H : Fin 6144 → Fin 1920 → EReal) : Mat 6144 1 :=
  fun i => Cert.RowFns.kScale (level (H (i 0)))

end Cert.Spec

end
-- ==== Proof.RefVal.lean ====
module

public import proofs.«01_k».proof.Proof.Gen.ReferenceIdeal.Frame
public import proofs.«01_k».proof.Proof.Spec
public import Idealize.ShloMosaic.Lib.Pointwise
public import Idealize.ShloMosaic.Lib.MatmulPlain
public import Idealize.ShloMosaic.Lib.Pipeline.Value

@[expose] public section

set_option maxRecDepth 16384

noncomputable section

/-! # The reference's values, read at an index -/

namespace Cert.ReferenceIdeal.Read

open Cert.ReferenceIdeal.Gen
open Idealize.ShloMosaic hiding ix1 ix2 ix3 eq_ix2
open Idealize.ShloMosaic.TcCoe Idealize.ShloMosaic.ValueIdx
open scoped BigOperators

variable (x0 : Vec Ideal S6144x1152 .fp8e4m3) (x1 : Vec Ideal S6144x1152 .bf16) (x2 : Vec Ideal S1152x1920 .fp8e4m3)
  (x3 : Vec Ideal S1152x1920 .bf16) (x4 : Vec Ideal S1x1920 .bf16)

/-- The hidden activation at a row and a column, from the call's operands. -/
def hidR (r : Fin 6144) (n : Fin 1920) : EReal :=
  Cert.RowFns.gel ((∑ k : Fin 1152, ((x0 (ix2 r k) : EReal) * x1 (ix2 r k)) * ((x2 (ix2 k n) : EReal) * x3 (ix2 k n))) + x4 (ix2 0 n))

theorem pay1_apply (r : Fin 6144) (n : Fin 1920) : k0_pay1 x0 x1 x2 x3 x4 (ix2 r n) = hidR x0 x1 x2 x3 x4 r n := by
  have em := Ideal.matmul_plain_apply (M := 6144) (K := 1152) (N := 1920) (φ₁ := .bf16) (φ₂ := .bf16) none
    (fun i => (x0 i * x1 i : EReal) : S6144x1152.Idx → EReal) (fun i => (x2 i * x3 i : EReal) : S1152x1920.Idx → EReal)
    (constant (F := Ideal) S6144x1920 .f32 0x00000000#32) r n
  have ez : ∀ v : EReal, constant (F := Ideal) S6144x1920 .f32 0x00000000#32 (ix2 r n) + v = v := fun v => by
    show Ideal.ofBits .f32 0x00000000#32 + v = v
    rw [Cert.RowFns.w0, zero_add]
  rw [ez] at em
  have eb : broadcastTo S6144x1920 (extf (F := Ideal) .f32 x4 bitsLt_bf16_f32) broadcasts_S1x1920_S6144x1920 (ix2 r n) = (x4 (ix2 (0 : Fin 1) n) : EReal) := by
    refine (broadcastTo_apply _ _ _ (ix2 (0 : Fin 1) n) fun a => ?_)
    match a with
    | ⟨0, _⟩ => rfl
    | ⟨1, _⟩ => rfl
  unfold k0_pay1 hidR
  simp only [shapeCast_self]
  show Cert.RowFns.gel (FloatOps.matmul (DotDims.plain 6144 1152 1920) none (fun i => (x0 i * x1 i : EReal) : S6144x1152.Idx → EReal)
    (fun i => (x2 i * x3 i : EReal) : S1152x1920.Idx → EReal) (constant (F := Ideal) S6144x1920 .f32 0x00000000#32) (ix2 r n)
    + broadcastTo S6144x1920 (extf (F := Ideal) .f32 x4 bitsLt_bf16_f32) broadcasts_S1x1920_S6144x1920 (ix2 r n)) = _
  rw [eb, em]

/-- A maximum taken from the least value on is the supremum. -/
theorem fold_max_eq_sup {ι : Type} (s : Finset ι) (f : ι → EReal) : s.fold max ⊥ f = s.sup f := rfl

/-- A vector of rows written as a column. -/
theorem column_apply (v : FVec Ideal S6144 .f32) (r : Fin 6144) :
    shapeCast S6144x1 v shapeCasts_S6144_S6144x1 (ix2 r (0 : Fin 1)) = v (ix1 r) :=
  shapeCast_apply _ _ _ (ix1 r) (by
    rw [Shape.rowMajor_val_one, Shape.rowMajor_val_two]
    show r.val = r.val * 1 + 0
    omega)

/-- The row's largest absolute value. -/
theorem pay2_apply (r : Fin 6144) (z : Fin 1) : k0_pay2 x0 x1 x2 x3 x4 (ix2 r z) = Cert.Spec.rowMax (hidR x0 x1 x2 x3 x4 r) := by
  obtain rfl : z = 0 := Subsingleton.elim _ _
  unfold k0_pay2 Cert.Spec.rowMax
  have hp := pay1_apply x0 x1 x2 x3 x4
  generalize k0_pay1 x0 x1 x2 x3 x4 = p at hp ⊢
  refine (column_apply _ r).trans ?_
  show reduceFold reduces_S6144x1920_S6144 (FloatOps.maximumf (F := Ideal) (φ := .f32)) (Ideal.ofBits .f32 0xFF800000#32) (absf (F := Ideal) p) (ix1 r) = _
  rw [reduceFold_eq_fold, Shape.Reduces.fold_fiber_r2_a1, Cert.RowFns.wBot]
  have e : (fun k : Fin 1920 => (absf (F := Ideal) p (ix2 r k) : EReal)) = fun n => max (hidR x0 x1 x2 x3 x4 r n) (-(hidR x0 x1 x2 x3 x4 r n)) := by
    funext k
    rw [← hp r k]
    rfl
  rw [← e]
  exact fold_max_eq_sup _ _

/-- A column times a constant, at an index. -/
theorem mul_step (p : FVec Ideal S6144x1 .f32) (c : EReal) (i : S6144x1.Idx) :
    mulf p (broadcast S6144x1 (c : Ideal .f32)) i = (p i : EReal) * c := rfl

/-- The quantiser's argument. -/
theorem pay3_apply (r : Fin 6144) (z : Fin 1) : k0_pay3 x0 x1 x2 x3 x4 (ix2 r z) = Cert.Spec.level (hidR x0 x1 x2 x3 x4 r) := by
  have hp := pay2_apply x0 x1 x2 x3 x4 r z
  have e : k0_pay3 x0 x1 x2 x3 x4 = mulf (k0_pay2 x0 x1 x2 x3 x4) (broadcast S6144x1 (Scalar.ofBits .f32 0x3B124925#32)) := rfl
  rw [e]
  generalize k0_pay2 x0 x1 x2 x3 x4 = p at hp ⊢
  refine (mul_step p (Ideal.ofBits .f32 0x3B124925#32) (ix2 r z)).trans ?_
  rw [hp]
  unfold Cert.Spec.level
  with_reducible rfl

/-- A column read along its row, at 254 columns. -/
theorem col254_apply (q : FVec Ideal S6144x1 .f32) (r : Fin 6144) (k : Fin 254) :
    broadcastTo S6144x254 q broadcasts_S6144x1_S6144x254 (ix2 r k) = q (ix2 r 0) := by
  refine (broadcastTo_apply _ _ _ (ix2 r (0 : Fin 1)) fun a => ?_)
  match a with
  | ⟨0, _⟩ => rfl
  | ⟨1, _⟩ => rfl

/-- A row of 254 entries repeated down the rows. -/
theorem row254_apply (q : FVec Ideal S1x254 .f32) (r : Fin 6144) (k : Fin 254) :
    broadcastTo S6144x254 q broadcasts_S1x254_S6144x254 (ix2 r k) = q (ix2 0 k) := by
  refine (broadcastTo_apply _ _ _ (ix2 (0 : Fin 1) k) fun a => ?_)
  match a with
  | ⟨0, _⟩ => rfl
  | ⟨1, _⟩ => rfl

/-- The comparison of two arrays as ones and zeros, at an index. -/
theorem cnt_step (p : FVec Ideal S6144x254 .f32) (q : FVec Ideal S6144x254 .f32) (i : S6144x254.Idx) : select (cmpf .oge p q) (broadcast S6144x254 (Scalar.ofBits (F := Ideal) .f32 0x3F800000#32)) (broadcast S6144x254 (Scalar.ofBits .f32 0x00000000#32)) i = Scalar.select (Ideal.cmp .oge (p i) (q i)) (Ideal.ofBits .f32 0x3F800000#32) (Ideal.ofBits .f32 0x00000000#32) := rfl

/-- A power of two from an integer exponent, at an index. -/
theorem pow_step (p : IVec S1x254 32) (j : S1x254.Idx) : exp2 (subf (sitofp (F := Ideal) .f32 p) (broadcast S1x254 (Scalar.ofBits .f32 0x42FC0000#32))) j = Ideal.exp2 ((((p j).toInt : ℝ) : EReal) - Ideal.ofBits .f32 0x42FC0000#32) := rfl

/-- One comparison of the reference's count. -/
theorem pay4_apply (r : Fin 6144) (k : Fin 254) : k0_pay4 x0 x1 x2 x3 x4 (ix2 r k)
    = Scalar.select (Ideal.cmp .oge (Cert.Spec.level (hidR x0 x1 x2 x3 x4 r)) (Ideal.exp2 ((((BitVec.ofNat 32 k.val).toInt : ℝ) : EReal) - Ideal.ofBits .f32 0x42FC0000#32)))
        (Ideal.ofBits .f32 0x3F800000#32) (Ideal.ofBits .f32 0x00000000#32) := by
  have hp := pay3_apply x0 x1 x2 x3 x4 r 0
  have e : k0_pay4 x0 x1 x2 x3 x4 = select (cmpf .oge (broadcastTo S6144x254 (k0_pay3 x0 x1 x2 x3 x4) broadcasts_S6144x1_S6144x254)
      (broadcastTo S6144x254 (exp2 (subf (sitofp (F := Ideal) .f32 (iota .tc S1x254 32 [1] iota_S1x254_d1_w32)) (broadcast S1x254 (Scalar.ofBits .f32 0x42FC0000#32)))) broadcasts_S1x254_S6144x254))
      (broadcast S6144x254 (Scalar.ofBits (F := Ideal) .f32 0x3F800000#32)) (broadcast S6144x254 (Scalar.ofBits .f32 0x00000000#32)) := rfl
  have ei : iota .tc S1x254 32 [1] iota_S1x254_d1_w32 (ix2 (0 : Fin 1) k) = BitVec.ofNat 32 k.val :=
    iota_single_apply .tc S1x254 32 1 iota_S1x254_d1_w32 (ix2 (0 : Fin 1) k)
  rw [e, cnt_step, col254_apply, row254_apply, pow_step, hp, ei]

/-- The exponent at an index. -/
theorem pay5_step (v27 : FVec Ideal S6144x1 .f32) (v40 : FVec Ideal S6144x254 .f32) (i : S6144x1.Idx) : k0_pay5 v27 v40 i = Scalar.select (Ideal.cmp .oeq (v27 i) (Ideal.ofBits .f32 0x00000000#32)) (Ideal.ofBits .f32 0x00000000#32) ((shapeCast S6144x1 (multiReduction (F := Ideal) (φ := .f32) .add [1] S6144 v40 0x00000000#32 reduces_S6144x254_S6144 (.inl rfl) rfl) shapeCasts_S6144_S6144x1 i : EReal) - Ideal.ofBits .f32 0x42FC0000#32) := rfl

/-- The exponent of a row's scale, from the row's largest absolute value and the quantiser's argument. -/
theorem pay5_apply (v27 : FVec Ideal S6144x1 .f32) (v40 : FVec Ideal S6144x254 .f32) (y : EReal) (r : Fin 6144)
    (h : ∀ k : Fin 254, v40 (ix2 r k) = Scalar.select (Ideal.cmp .oge y (Ideal.exp2 ((((BitVec.ofNat 32 k.val).toInt : ℝ) : EReal) - Ideal.ofBits .f32 0x42FC0000#32)))
        (Ideal.ofBits .f32 0x3F800000#32) (Ideal.ofBits .f32 0x00000000#32)) (z : Fin 1) :
    k0_pay5 v27 v40 (ix2 r z) = Cert.RowFns.rExp (v27 (ix2 r z)) y := by
  obtain rfl : z = 0 := Subsingleton.elim _ _
  have e : shapeCast S6144x1 (multiReduction (F := Ideal) (φ := .f32) .add [1] S6144 v40 0x00000000#32 reduces_S6144x254_S6144 (.inl rfl) rfl) shapeCasts_S6144_S6144x1 (ix2 r (0 : Fin 1))
      = Cert.RowFns.rCount y := by
    refine (column_apply _ r).trans ?_
    pointwise
    unfold Cert.RowFns.rCount
    exact Finset.sum_congr rfl fun k _ => h k
  rw [pay5_step, e]
  unfold Cert.RowFns.rExp
  with_reducible rfl

/-- The scale at an index. -/
theorem pay6_step (v27 v29 : FVec Ideal S6144x1 .f32) (v40 : FVec Ideal S6144x254 .f32) (i : S6144x1.Idx) : k0_pay6 v27 v29 v40 i = Scalar.select (Ideal.cmp .olt (v29 i) (Ideal.ofBits .f32 0x7F000000#32)) (Ideal.exp2 (k0_pay5 v27 v40 i)) (Scalar.select (Ideal.cmp .olt (v29 i) (Ideal.ofBits .f32 0x7F800000#32)) (Ideal.ofBits .f32 0x7F800000#32) (Ideal.ofBits .f32 0x00000000#32)) := by
  unfold k0_pay6
  generalize k0_pay5 v27 v40 = p
  rfl

/-- The row's scale. -/
theorem pay6_apply (r : Fin 6144) (z : Fin 1) :
    k0_pay6 (k0_pay2 x0 x1 x2 x3 x4) (k0_pay3 x0 x1 x2 x3 x4) (k0_pay4 x0 x1 x2 x3 x4) (ix2 r z)
      = Cert.RowFns.rScale (Cert.Spec.rowMax (hidR x0 x1 x2 x3 x4 r)) (Cert.Spec.level (hidR x0 x1 x2 x3 x4 r)) := by
  have h5 := pay5_apply (k0_pay2 x0 x1 x2 x3 x4) (k0_pay4 x0 x1 x2 x3 x4) _ r (pay4_apply x0 x1 x2 x3 x4 r) z
  rw [pay6_step, h5, pay2_apply, pay3_apply]
  unfold Cert.RowFns.rScale
  with_reducible rfl

/-- The codes at an index. -/
theorem pay7_step (v24 : FVec Ideal S6144x1920 .f32) (v27 v29 : FVec Ideal S6144x1 .f32) (v40 : FVec Ideal S6144x254 .f32) (i : S6144x1920.Idx) :
    k0_pay7 v24 v27 v29 v40 i = Cert.RowFns.clip ((v24 i : EReal) * broadcastTo S6144x1920 (fun j => Scalar.select (Ideal.cmp .olt (v29 j) (Ideal.ofBits .f32 0x7E800000#32)) (Ideal.exp2 (Ideal.ofBits .f32 0x00000000#32 - k0_pay5 v27 v40 j))
      (Scalar.select (Ideal.cmp .olt (v29 j) (Ideal.ofBits .f32 0x7F000000#32)) (Ideal.ofBits .f32 0x00000000#32)
        (Scalar.select (Ideal.cmp .olt (v29 j) (Ideal.ofBits .f32 0x7F800000#32)) (Ideal.ofBits .f32 0xFF800000#32) (Ideal.ofBits .f32 0xFF000000#32))) : S6144x1.Idx → EReal) broadcasts_S6144x1_S6144x1920 i) := by
  unfold k0_pay7
  generalize k0_pay5 v27 v40 = p
  rfl

/-- A column read along its row, at 1920 columns. -/
theorem col1920_apply (q : S6144x1.Idx → EReal) (r : Fin 6144) (n : Fin 1920) :
    broadcastTo S6144x1920 q broadcasts_S6144x1_S6144x1920 (ix2 r n) = q (ix2 r 0) := by
  refine (broadcastTo_apply _ _ _ (ix2 r (0 : Fin 1)) fun a => ?_)
  match a with
  | ⟨0, _⟩ => rfl
  | ⟨1, _⟩ => rfl

/-- The row's codes. -/
theorem pay7_apply (r : Fin 6144) (n : Fin 1920) :
    k0_pay7 (k0_pay1 x0 x1 x2 x3 x4) (k0_pay2 x0 x1 x2 x3 x4) (k0_pay3 x0 x1 x2 x3 x4) (k0_pay4 x0 x1 x2 x3 x4) (ix2 r n)
      = Cert.RowFns.clip (hidR x0 x1 x2 x3 x4 r n
          * Cert.RowFns.rInv (Cert.Spec.rowMax (hidR x0 x1 x2 x3 x4 r)) (Cert.Spec.level (hidR x0 x1 x2 x3 x4 r))) := by
  have h5 := pay5_apply (k0_pay2 x0 x1 x2 x3 x4) (k0_pay4 x0 x1 x2 x3 x4) _ r (pay4_apply x0 x1 x2 x3 x4 r) 0
  rw [pay7_step, col1920_apply, h5, pay2_apply, pay3_apply, pay1_apply]
  unfold Cert.RowFns.rInv
  with_reducible rfl

end Cert.ReferenceIdeal.Read

end
-- ==== Proof.RefArrays.lean ====
module

public import proofs.«01_k».proof.Proof.RefVal
public import Idealize.ShloMosaic.Lib.Pipeline.ArrRel
public import Idealize.ShloMosaic.Lib.Pipeline.ValueKit.Geometry

@[expose] public section

set_option maxRecDepth 16384

noncomputable section

/-! # What the reference's two result arrays hold at the end -/

namespace Cert.ReferenceIdeal.Read

open Cert.ReferenceIdeal.Gen
open Idealize.ShloMosaic hiding ix1 ix2 ix3 eq_ix2
open Idealize.ShloMosaic.TcCoe Idealize.ShloMosaic.Tactic Idealize.ShloMosaic.ValueIdx
open Idealize.SL.Sem
open scoped BigOperators

theorem hz : (![0, 0] : Fin 2 → Nat) = fun _ => 0 := funext fun a => by fin_cases a <;> rfl

section block

variable (x0 : Vec Ideal S6144x1152 .fp8e4m3) (x1 : Vec Ideal S6144x1152 .bf16) (x2 : Vec Ideal S1152x1920 .fp8e4m3)
  (x3 : Vec Ideal S1152x1920 .bf16) (x4 : Vec Ideal S1x1920 .bf16)

/-- What the body leaves in the code window: the codes of the hidden activations. -/
theorem out5_eq : out0_5 x0 x1 x2 x3 x4 = Cert.Spec.codes (hidR x0 x1 x2 x3 x4) := by
  unfold out0_5 k0_pay8 k0_pay9 k0_pay10
  refine (View.canon_unit_zero hz _ _).trans ?_
  have l0 : View.ld x0 r0_0 = x0 := View.ld_unit_zero hz _ x0
  have l1 : View.ld x1 r0_0 = x1 := View.ld_unit_zero hz _ x1
  have l2 : View.ld x2 r0_1 = x2 := View.ld_unit_zero hz _ x2
  have l3 : View.ld x3 r0_1 = x3 := View.ld_unit_zero hz _ x3
  have l4 : View.ld x4 r0_2 = x4 := View.ld_unit_zero hz _ x4
  rw [l0, l1, l2, l3, l4]
  funext i
  obtain ⟨r, n, rfl⟩ : ∃ (r : Fin 6144) (n : Fin 1920), i = ix2 r n := ⟨i 0, i 1, eq_ix2 i⟩
  refine (pay7_apply x0 x1 x2 x3 x4 r n).trans ?_
  have e := (Cert.RowFns.scale_inv_eq (Cert.Spec.rowMax (hidR x0 x1 x2 x3 x4 r))).2
  unfold Cert.Spec.level
  rw [← e]
  rfl

/-- What the body leaves in the scale window: the scales of the hidden activations. -/
theorem out6_eq : out0_6 x0 x1 x2 x3 x4 = Cert.Spec.scales (hidR x0 x1 x2 x3 x4) := by
  unfold out0_6 k0_pay8 k0_pay9 k0_pay10
  refine (View.canon_unit_zero hz _ _).trans ?_
  have l0 : View.ld x0 r0_0 = x0 := View.ld_unit_zero hz _ x0
  have l1 : View.ld x1 r0_0 = x1 := View.ld_unit_zero hz _ x1
  have l2 : View.ld x2 r0_1 = x2 := View.ld_unit_zero hz _ x2
  have l3 : View.ld x3 r0_1 = x3 := View.ld_unit_zero hz _ x3
  have l4 : View.ld x4 r0_2 = x4 := View.ld_unit_zero hz _ x4
  rw [l0, l1, l2, l3, l4]
  funext i
  obtain ⟨r, z, rfl⟩ : ∃ (r : Fin 6144) (z : Fin 1), i = ix2 r z := ⟨i 0, i 1, eq_ix2 i⟩
  refine (pay6_apply x0 x1 x2 x3 x4 r z).trans ?_
  have e := (Cert.RowFns.scale_inv_eq (Cert.Spec.rowMax (hidR x0 x1 x2 x3 x4 r))).1
  unfold Cert.Spec.level
  rw [← e]
  rfl

end block

variable (m : (ℓ : Loc nD τ sig) → Buf (Elt Ideal) ℓ) (ρ : Dev nD → PrngReg)

/-! ## The windows' blocks are the whole arrays -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

theorem iblk0_apply (c : Dev nD) (t : Fin cfg0.N) (r : Fin 6144) (k : Fin 1152) : iblk m c 0 t (ix2 r k) = V m c main_v9 (ix2 r k) := by
  blk_simp [iblk]
  blk_ext [index0]
theorem iblk1_apply (c : Dev nD) (t : Fin cfg0.N) (r : Fin 6144) (k : Fin 1152) : iblk m c 1 t (ix2 r k) = V m c main_v3 (ix2 r k) := by
  blk_simp [iblk]
  blk_ext [index1]
theorem iblk2_apply (c : Dev nD) (t : Fin cfg0.N) (k : Fin 1152) (n : Fin 1920) : iblk m c 2 t (ix2 k n) = V m c main_arg2 (ix2 k n) := by
  blk_simp [iblk]
  blk_ext [index2]
theorem iblk3_apply (c : Dev nD) (t : Fin cfg0.N) (k : Fin 1152) (n : Fin 1920) : iblk m c 3 t (ix2 k n) = V m c main_v8 (ix2 k n) := by
  blk_simp [iblk]
  blk_ext [index3]
theorem iblk4_apply (c : Dev nD) (t : Fin cfg0.N) (z : Fin 1) (n : Fin 1920) : iblk m c 4 t (ix2 z n) = V m c main_v10 (ix2 z n) := by
  blk_simp [iblk]
  blk_ext [index4]

/-- The hidden activations of the whole problem, of core `c`'s arrays as the call finds them. -/
def hidAll (c : Dev nD) : Fin 6144 → Fin 1920 → EReal :=
  hidR (V m c main_v9) (V m c main_v3) (V m c main_arg2) (V m c main_v8) (V m c main_v10)

theorem hidR_blk (c : Dev nD) (t : Fin cfg0.N) : hidR (iblk m c 0 t) (iblk m c 1 t) (iblk m c 2 t) (iblk m c 3 t) (iblk m c 4 t) = hidAll m c := by
  funext r n
  unfold hidAll hidR
  rw [iblk4_apply]
  refine congrArg Cert.RowFns.gel (congrArg (· + _) (Finset.sum_congr rfl fun k _ => ?_))
  rw [iblk0_apply, iblk1_apply, iblk2_apply, iblk3_apply]

/-- At the end the two result arrays hold the codes and the scales of the whole problem. -/
theorem arr5 (c : Dev nD) : (dats m 0 c).arrAt 5 cfg0.N = Cert.Spec.codes (hidAll m c) := by
  refine Pipeline.Dat.arrAt_eq_of_covers _ 5 _ (by decide +kernel) fun t hf y => ?_
  blk_simp
  rw [after0_5, out5_eq, hidR_blk]
  refine congrArg _ ?_
  blk_ext [index5]

theorem arr6 (c : Dev nD) : (dats m 0 c).arrAt 6 cfg0.N = Cert.Spec.scales (hidAll m c) := by
  refine Pipeline.Dat.arrAt_eq_of_covers _ 6 _ (by decide +kernel) fun t hf y => ?_
  blk_simp
  rw [after0_6, out6_eq, hidR_blk]
  refine congrArg _ ?_
  blk_ext [index6]

/-- The reference's run: the two results, and the arguments as they were. -/
theorem run_values : θ_run defs (onTc (τ := τ) (main (F := Ideal))) ⟨m, fun _ => 0, ρ⟩ fun r => ∀ c : Dev nD,
      r.2.mem ((c.tc : Thread nD τ).loc main_v11_0) = Cert.Spec.codes (hidAll m c)
      ∧ r.2.mem ((c.tc : Thread nD τ).loc main_v11_1) = Cert.Spec.scales (hidAll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (arr5 m c), ((h c).1 6).trans (arr6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.ReferenceIdeal.Read

end
-- ==== Proof.KiRuns.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_0, e0]
    word_cmp
   : ∀ t : Fin grid0.N, cond0_0 (grid0.coords t) ↔ t.val % 13 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x1152 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S9x15 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1920 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1920 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1152x1920 .bf16 := Memref.whole cc0_scratch0
abbrev scM0_1 : Memref sig .tc .vmem S512x1152 .bf16 := Memref.whole cc0_scratch1
abbrev scM0_2 : Memref sig .tc .vmem S512x1920 .f32 := Memref.whole cc0_scratch2
abbrev scM0_3 : Memref sig .tc .vmem S512x128 .f32 := Memref.whole cc0_scratch3
abbrev scM0_4 : Memref sig .tc .vmem S512x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Body

end
-- ==== Proof.KiDequant.lean ====
module

public import proofs.«01_k».proof.Proof.KiRuns

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The statements the first grid point alone runs: they multiply every 128 by 128 block of the weights by its scale. -/
def dequant (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) :
    Prog (TpuEff nD τ sig (Elt F) Λ₀ .tc) PUnit := do
  let v567 : FVec F S128x128 .bf16 ← k0_part1 i arg1 harg1 arg2 harg2 arg3 harg3 arg4 harg4 arg5 harg5 arg6 harg6 arg7 harg7 arg8 harg8 arg9 harg9 arg10 harg10 arg11 harg11 arg12 harg12
  let ⟨v600, v601⟩ : Σ' (v600 : FVec F S128x128 .bf16), Vec F S128x128 .fp8e4m3 ← k0_part2 i arg1 harg1 arg2 harg2 arg3 harg3 arg4 harg4 arg5 harg5 arg6 harg6 arg7 harg7 arg8 harg8 arg9 harg9 arg10 harg10 arg11 harg11 arg12 harg12 v567
  let v635 : FVec F S128x128 .f32 ← k0_part3 i arg1 harg1 arg2 harg2 arg3 harg3 arg4 harg4 arg5 harg5 arg6 harg6 arg7 harg7 arg8 harg8 arg9 harg9 arg10 harg10 arg11 harg11 arg12 harg12 v600 v601
  k0_part4 i arg1 harg1 arg2 harg2 arg3 harg3 arg4 harg4 arg5 harg5 arg6 harg6 arg7 harg7 arg8 harg8 arg9 harg9 arg10 harg10 arg11 harg11 arg12 harg12 v635
  let v702 : FVec F S128x128 .bf16 ← k0_part5 i arg1 harg1 arg2 harg2 arg3 harg3 arg4 harg4 arg5 harg5 arg6 harg6 arg7 harg7 arg8 harg8 arg9 harg9 arg10 harg10 arg11 harg11 arg12 harg12
  let ⟨v735, v736⟩ : Σ' (v735 : FVec F S128x128 .bf16), Vec F S128x128 .fp8e4m3 ← k0_part6 i arg1 harg1 arg2 harg2 arg3 harg3 arg4 harg4 arg5 harg5 arg6 harg6 arg7 harg7 arg8 harg8 arg9 harg9 arg10 harg10 arg11 harg11 arg12 harg12 v702
  let v770 : FVec F S128x128 .f32 ← k0_part7 i arg1 harg1 arg2 harg2 arg3 harg3 arg4 harg4 arg5 harg5 arg6 harg6 arg7 harg7 arg8 harg8 arg9 harg9 arg10 harg10 arg11 harg11 arg12 harg12 v735 v736
  k0_part8 i arg1 harg1 arg2 harg2 arg3 harg3 arg4 harg4 arg5 harg5 arg6 harg6 arg7 harg7 arg8 harg8 arg9 harg9 arg10 harg10 arg11 harg11 arg12 harg12 v770
  let v837 : FVec F S128x128 .bf16 ← k0_part9 i arg1 harg1 arg2 harg2 arg3 harg3 arg4 harg4 arg5 harg5 arg6 harg6 arg7 harg7 arg8 harg8 arg9 harg9 arg10 harg10 arg11 harg11 arg12 harg12
  let ⟨v870, v871⟩ : Σ' (v870 : FVec F S128x128 .bf16), Vec F S128x128 .fp8e4m3 ← k0_part10 i arg1 harg1 arg2 harg2 arg3 harg3 arg4 harg4 arg5 harg5 arg6 harg6 arg7 harg7 arg8 harg8 arg9 harg9 arg10 harg10 arg11 harg11 arg12 harg12 v837
  let v905 : FVec F S128x128 .f32 ← k0_part11 i arg1 harg1 arg2 harg2 arg3 harg3 arg4 harg4 arg5 harg5 arg6 harg6 arg7 harg7 arg8 harg8 arg9 harg9 arg10 harg10 arg11 harg11 arg12 harg12 v870 v871
  k0_part12 i arg1 harg1 arg2 harg2 arg3 harg3 arg4 harg4 arg5 harg5 arg6 harg6 arg7 harg7 arg8 harg8 arg9 harg9 arg10 harg10 arg11 harg11 arg12 harg12 v905
  let v972 : FVec F S128x128 .bf16 ← k0_part13 i arg1 harg1 arg2 harg2 arg3 harg3 arg4 harg4 arg5 harg5 arg6 harg6 arg7 harg7 arg8 harg8 arg9 harg9 arg10 harg10 arg11 harg11 arg12 harg12
  let ⟨v1005, v1006⟩ : Σ' (v1005 : FVec F S128x128 .bf16), Vec F S128x128 .fp8e4m3 ← k0_part14 i arg1 harg1 arg2 harg2 arg3 harg3 arg4 harg4 arg5 harg5 arg6 harg6 arg7 harg7 arg8 harg8 arg9 harg9 arg10 harg10 arg11 harg11 arg12 harg12 v972
  let v1040 : FVec F S128x128 .f32 ← k0_part15 i arg1 harg1 arg2 harg2 arg3 harg3 arg4 harg4 arg5 harg5 arg6 harg6 arg7 harg7 arg8 harg8 arg9 harg9 arg10 harg10 arg11 harg11 arg12 harg12 v1005 v1006
  k0_part16 i arg1 harg1 arg2 harg2 arg3 harg3 arg4 harg4 arg5 harg5 arg6 harg6 arg7 harg7 arg8 harg8 arg9 harg9 arg10 harg10 arg11 harg11 arg12 harg12 v1040
  let v1107 : FVec F S128x128 .bf16 ← k0_part17 i arg1 harg1 arg2 harg2 arg3 harg3 arg4 harg4 arg5 harg5 arg6 harg6 arg7 harg7 arg8 harg8 arg9 harg9 arg10 harg10 arg11 harg11 arg12 harg12
  let ⟨v1140, v1141⟩ : Σ' (v1140 : FVec F S128x128 .bf16), Vec F S128x128 .fp8e4m3 ← k0_part18 i arg1 harg1 arg2 harg2 arg3 harg3 arg4 harg4 arg5 harg5 arg6 harg6 arg7 harg7 arg8 harg8 arg9 harg9 arg10 harg10 arg11 harg11 arg12 harg12 v1107
  let v1175 : FVec F S128x128 .f32 ← k0_part19 i arg1 harg1 arg2 harg2 arg3 harg3 arg4 harg4 arg5 harg5 arg6 harg6 arg7 harg7 arg8 harg8 arg9 harg9 arg10 harg10 arg11 harg11 arg12 harg12 v1140 v1141
  k0_part20 i arg1 harg1 arg2 harg2 arg3 harg3 arg4 harg4 arg5 harg5 arg6 harg6 arg7 harg7 arg8 harg8 arg9 harg9 arg10 harg10 arg11 harg11 arg12 harg12 v1175
  let v1242 : FVec F S128x128 .bf16 ← k0_part21 i arg1 harg1 arg2 harg2 arg3 harg3 arg4 harg4 arg5 harg5 arg6 harg6 arg7 harg7 arg8 harg8 arg9 harg9 arg10 harg10 arg11 harg11 arg12 harg12
  let ⟨v1275, v1276⟩ : Σ' (v1275 : FVec F S128x128 .bf16), Vec F S128x128 .fp8e4m3 ← k0_part22 i arg1 harg1 arg2 harg2 arg3 harg3 arg4 harg4 arg5 harg5 arg6 harg6 arg7 harg7 arg8 harg8 arg9 harg9 arg10 harg10 arg11 harg11 arg12 harg12 v1242
  let v1310 : FVec F S128x128 .f32 ← k0_part23 i arg1 harg1 arg2 harg2 arg3 harg3 arg4 harg4 arg5 harg5 arg6 harg6 arg7 harg7 arg8 harg8 arg9 harg9 arg10 harg10 arg11 harg11 arg12 harg12 v1275 v1276
  k0_part24 i arg1 harg1 arg2 harg2 arg3 harg3 arg4 harg4 arg5 harg5 arg6 harg6 arg7 harg7 arg8 harg8 arg9 harg9 arg10 harg10 arg11 harg11 arg12 harg12 v1310
  let v1377 : FVec F S128x128 .bf16 ← k0_part25 i arg1 harg1 arg2 harg2 arg3 harg3 arg4 harg4 arg5 harg5 arg6 harg6 arg7 harg7 arg8 harg8 arg9 harg9 arg10 harg10 arg11 harg11 arg12 harg12
  let ⟨v1410, v1411⟩ : Σ' (v1410 : FVec F S128x128 .bf16), Vec F S128x128 .fp8e4m3 ← k0_part26 i arg1 harg1 arg2 harg2 arg3 harg3 arg4 harg4 arg5 harg5 arg6 harg6 arg7 harg7 arg8 harg8 arg9 harg9 arg10 harg10 arg11 harg11 arg12 harg12 v1377
  let v1445 : FVec F S128x128 .f32 ← k0_part27 i arg1 harg1 arg2 harg2 arg3 harg3 arg4 harg4 arg5 harg5 arg6 harg6 arg7 harg7 arg8 harg8 arg9 harg9 arg10 harg10 arg11 harg11 arg12 harg12 v1410 v1411
  k0_part28 i arg1 harg1 arg2 harg2 arg3 harg3 arg4 harg4 arg5 harg5 arg6 harg6 arg7 harg7 arg8 harg8 arg9 harg9 arg10 harg10 arg11 harg11 arg12 harg12 v1445
  let v1512 : FVec F S128x128 .bf16 ← k0_part29 i arg1 harg1 arg2 harg2 arg3 harg3 arg4 harg4 arg5 harg5 arg6 harg6 arg7 harg7 arg8 harg8 arg9 harg9 arg10 harg10 arg11 harg11 arg12 harg12
  let ⟨v1545, v1546⟩ : Σ' (v1545 : FVec F S128x128 .bf16), Vec F S128x128 .fp8e4m3 ← k0_part30 i arg1 harg1 arg2 harg2 arg3 harg3 arg4 harg4 arg5 harg5 arg6 harg6 arg7 harg7 arg8 harg8 arg9 harg9 arg10 harg10 arg11 harg11 arg12 harg12 v1512
  let v1580 : FVec F S128x128 .f32 ← k0_part31 i arg1 harg1 arg2 harg2 arg3 harg3 arg4 harg4 arg5 harg5 arg6 harg6 arg7 harg7 arg8 harg8 arg9 harg9 arg10 harg10 arg11 harg11 arg12 harg12 v1545 v1546
  k0_part32 i arg1 harg1 arg2 harg2 arg3 harg3 arg4 harg4 arg5 harg5 arg6 harg6 arg7 harg7 arg8 harg8 arg9 harg9 arg10 harg10 arg11 harg11 arg12 harg12 v1580
  let v1647 : FVec F S128x128 .bf16 ← k0_part33 i arg1 harg1 arg2 harg2 arg3 harg3 arg4 harg4 arg5 harg5 arg6 harg6 arg7 harg7 arg8 harg8 arg9 harg9 arg10 harg10 arg11 harg11 arg12 harg12
  let ⟨v1680, v1681⟩ : Σ' (v1680 : FVec F S128x128 .bf16), Vec F S128x128 .fp8e4m3 ← k0_part34 i arg1 harg1 arg2 harg2 arg3 harg3 arg4 harg4 arg5 harg5 arg6 harg6 arg7 harg7 arg8 harg8 arg9 harg9 arg10 harg10 arg11 harg11 arg12 harg12 v1647
  let v1715 : FVec F S128x128 .f32 ← k0_part35 i arg1 harg1 arg2 harg2 arg3 harg3 arg4 harg4 arg5 harg5 arg6 harg6 arg7 harg7 arg8 harg8 arg9 harg9 arg10 harg10 arg11 harg11 arg12 harg12 v1680 v1681
  k0_part36 i arg1 harg1 arg2 harg2 arg3 harg3 arg4 harg4 arg5 harg5 arg6 harg6 arg7 harg7 arg8 harg8 arg9 harg9 arg10 harg10 arg11 harg11 arg12 harg12 v1715
  pure ⟨⟩

set_option maxHeartbeats 1000000 in
/-- What the dequantising statements leave in the weights' scratch, as pieces, with the proof that they run to it. -/
noncomputable def dequantRun (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole)
    (x2 : Vec F S1152x1920 .fp8e4m3) (x3 : Vec F S9x15 .f32) :
    { LS0 : List (View.Piece (Elt F) S1152x1920 .bf16) //
      ∀ (E : Set ℕ) (K : PUnit → sProp 𝕄),
        iprop(owns (c : Thread nD τ) arg3 fullShare x2 ∗ owns (c : Thread nD τ) arg4 fullShare x3 ∗ (∃ d, owns (c : Thread nD τ) arg8 fullShare d)
            ∗ (iprop(owns (c : Thread nD τ) arg3 fullShare x2 ∗ owns (c : Thread nD τ) arg4 fullShare x3 ∗ (∃ f, arg8.view.loc (c : Thread nD τ) ↦[arg8.view.set]{fullShare} arg8.view.writes (Elt F) f LS0)) -∗ K ⟨⟩))
          ⊢ wp frame (wpE (defs₀ (F := F)) Variants.none c none) E (dequant i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    unfold dequant
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f2, %hf2, H2⟩, ⟨%f3, %hf3, H3⟩, ⟨%ds0, %fs0, -, HS0⟩, Hk⟩
    obtain rfl := harg3.eq_unread hf2; obtain rfl := harg4.eq_unread hf3
    sl_exec
    sl_step
    iapply Hk
    isplitl [H2]
    · iexists _; isplitr; · ipureintro; exact harg3.read_unread _
      iexact H2
    isplitl [H3]
    · iexists _; isplitr; · ipureintro; exact harg4.read_unread _
      iexact H3
    iexists _; iexact HS0

end Cert.KernelIdeal.Body

end
-- ==== Proof.KiRest.lean ====
module

public import proofs.«01_k».proof.Proof.KiRuns

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's statements past the dequantisation leave in the two outputs and the two carried scratch buffers, as pieces,
    with the proof that the body at a point that does not dequantise runs to it. -/
noncomputable def restRun (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x4 : Vec F S1x1920 .bf16) (xs0 : Vec F S1152x1920 .bf16) (xs2 : Vec F S512x1920 .f32) (xs3 : Vec F S512x128 .f32) :
    { L : List (View.Piece (Elt F) S512x1920 .fp8e4m3) × List (View.Piece (Elt F) S512x1 .f32) × List (View.Piece (Elt F) S512x1920 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ owns (c : Thread nD τ) arg10 fullShare xs2 ∗ owns (c : Thread nD τ) arg11 fullShare xs3 ∗ (∃ d, owns (c : Thread nD τ) arg12 fullShare d)
            ∗ (iprop(owns (c : Thread nD τ) arg1 fullShare x0 ∗ owns (c : Thread nD τ) arg2 fullShare x1 ∗ owns (c : Thread nD τ) arg5 fullShare x4 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ owns (c : Thread nD τ) arg8 fullShare xs0 ∗ (∃ d, owns (c : Thread nD τ) arg9 fullShare d) ∗ (∃ f, arg10.view.loc (c : Thread nD τ) ↦[arg10.view.set]{fullShare} arg10.view.writes (Elt F) f L.2.2.1) ∗ (∃ f, arg11.view.loc (c : Thread nD τ) ↦[arg11.view.set]{fullShare} arg11.view.writes (Elt F) f L.2.2.2) ∗ (∃ d, owns (c : Thread nD τ) arg12 fullShare d)) -∗ K ⟨⟩))
          ⊢ wp frame (wpE (defs₀ (F := F)) Variants.none c none) E (cc0_fp8_linear_gelu_quant i arg1 harg1 arg2 harg2 arg3 harg3 arg4 harg4 arg5 harg5 arg6 harg6 arg7 harg7 arg8 harg8 arg9 harg9 arg10 harg10 arg11 harg11 arg12 harg12) K } := by
  refine ⟨⟨?_, ?_, ?_, ?_⟩, fun E K => ?run⟩
  case run =>
    simp only [cc0_fp8_linear_gelu_quant_eq_skeleton]; unfold cc0_fp8_linear_gelu_quant_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f4, %hf4, H4⟩, ⟨%d5, %f5, -, H5⟩, ⟨%d6, %f6, -, H6⟩, ⟨%fs0, %hfs0, HS0⟩, ⟨%ds1, %fs1, -, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg5.eq_unread hf4; obtain rfl := harg8.eq_unread hfs0; obtain rfl := harg10.eq_unread hfs2; obtain rfl := harg11.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H4]
    · iexists _; isplitr; · ipureintro; exact harg5.read_unread _
      iexact H4
    isplitl [H5]
    · iexists _; iexact H5
    isplitl [H6]
    · iexists _; iexact H6
    isplitl [HS0]
    · iexists _; isplitr; · ipureintro; exact harg8.read_unread _
      iexact HS0
    isplitl [HS1]
    · iexists _, _; isplitr; swap; · iexact HS1
      ipureintro; rfl
    isplitl [HS2]
    · iexists _; iexact HS2
    isplitl [HS3]
    · iexists _; iexact HS3
    iexists _, _; isplitr; swap; · iexact HS4
    ipureintro; rfl

end Cert.KernelIdeal.Body

end
-- ==== Proof.KiSplit.lean ====
module

public import proofs.«01_k».proof.Proof.KiDequant
public import proofs.«01_k».proof.Proof.KiRest

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 65536 in
set_option maxHeartbeats 1000000 in
/-- At a point that dequantises, the body is the dequantising statements followed by the body of a point that does not. -/
theorem body_split (i i' : grid0.Coords) (h : cond0_0 i) (h' : ¬cond0_0 i') (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) :
    cc0_fp8_linear_gelu_quant (F := F) i arg1 harg1 arg2 harg2 arg3 harg3 arg4 harg4 arg5 harg5 arg6 harg6 arg7 harg7 arg8 harg8 arg9 harg9 arg10 harg10 arg11 harg11 arg12 harg12
      = (dequant i arg1 harg1 arg2 harg2 arg3 harg3 arg4 harg4 arg5 harg5 arg6 harg6 arg7 harg7 arg8 harg8 arg9 harg9 arg10 harg10 arg11 harg11 arg12 harg12).bind fun _ => cc0_fp8_linear_gelu_quant i' arg1 harg1 arg2 harg2 arg3 harg3 arg4 harg4 arg5 harg5 arg6 harg6 arg7 harg7 arg8 harg8 arg9 harg9 arg10 harg10 arg11 harg11 arg12 harg12 := by
  have e37 : k0_part37 (F := F) i arg1 harg1 arg2 harg2 arg3 harg3 arg4 harg4 arg5 harg5 arg6 harg6 arg7 harg7 arg8 harg8 arg9 harg9 arg10 harg10 arg11 harg11 arg12 harg12 = (dequant i arg1 harg1 arg2 harg2 arg3 harg3 arg4 harg4 arg5 harg5 arg6 harg6 arg7 harg7 arg8 harg8 arg9 harg9 arg10 harg10 arg11 harg11 arg12 harg12).bind fun _ => k0_part37 i' arg1 harg1 arg2 harg2 arg3 harg3 arg4 harg4 arg5 harg5 arg6 harg6 arg7 harg7 arg8 harg8 arg9 harg9 arg10 harg10 arg11 harg11 arg12 harg12 := by
    rw [k0_part37_eq_skeleton]
    unfold k0_part37_skel
    rw [dif_pos (show _ = 1#1 from h), dif_neg (show ¬ _ = 1#1 from h')]
    unfold dequant
    simp only [Prog.bind_assoc]
    rfl
  rw [cc0_fp8_linear_gelu_quant_eq_skeleton]
  unfold cc0_fp8_linear_gelu_quant_skel
  rw [e37]
  have e38 : k0_part38 (F := F) i = k0_part38 i' := by rw [k0_part38_eq_skeleton]; rfl
  have e39 : k0_part39 (F := F) i = k0_part39 i' := by rw [k0_part39_eq_skeleton]; rfl
  have e40 : k0_part40 (F := F) i = k0_part40 i' := by rw [k0_part40_eq_skeleton]; rfl
  have e41 : k0_part41 (F := F) i = k0_part41 i' := by rw [k0_part41_eq_skeleton]; rfl
  have e42 : k0_part42 (F := F) i = k0_part42 i' := by rw [k0_part42_eq_skeleton]; rfl
  have e43 : k0_part43 (F := F) i = k0_part43 i' := by rw [k0_part43_eq_skeleton]; rfl
  have e44 : k0_part44 (F := F) i = k0_part44 i' := by rw [k0_part44_eq_skeleton]; rfl
  have e45 : k0_part45 (F := F) i = k0_part45 i' := by rw [k0_part45_eq_skeleton]; rfl
  have e46 : k0_part46 (F := F) i = k0_part46 i' := by rw [k0_part46_eq_skeleton]; rfl
  have e47 : k0_part47 (F := F) i = k0_part47 i' := by rw [k0_part47_eq_skeleton]; rfl
  have e48 : k0_part48 (F := F) i = k0_part48 i' := by rw [k0_part48_eq_skeleton]; rfl
  have e49 : k0_part49 (F := F) i = k0_part49 i' := by rw [k0_part49_eq_skeleton]; rfl
  have e50 : k0_part50 (F := F) i = k0_part50 i' := by rw [k0_part50_eq_skeleton]; rfl
  rw [e38, e39, e40, e41, e42, e43, e44, e45, e46, e47, e48, e49, e50]
  exact Prog.bind_assoc _ _ _

end Cert.KernelIdeal.Body

end
-- ==== Proof.KiBody.lean ====
module

public import proofs.«01_k».proof.Proof.KiSplit
public import Idealize.ShloMosaic.Lib.Pipeline.DatRel
public import Idealize.ShloMosaic.Lib.Pipeline.ArrRel

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body computes, as functions of what it reads: the dequantised weights, the hidden block, its codes under an
    inverse scale, its scales and its inverse scales — with the proofs that the runs' pieces read back as these. -/
structure Vals (F : FTy → Type) [FloatOps F] where
  dq : Vec F S1152x1920 .fp8e4m3 → Vec F S9x15 .f32 → Vec F S1152x1920 .bf16
  hid : Vec F S512x1152 .fp8e4m3 → Vec F S512x9 .f32 → Vec F S1x1920 .bf16 → Vec F S1152x1920 .bf16 → Vec F S512x1920 .f32
  code : Vec F S512x1920 .f32 → Vec F S512x128 .f32 → Vec F S512x1920 .fp8e4m3
  scl : Vec F S512x1920 .f32 → Vec F S512x1 .f32
  inv : Vec F S512x1920 .f32 → Vec F S512x128 .f32
  dq_eq : ∀ (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole)
    (x2 : Vec F S1152x1920 .fp8e4m3) (x3 : Vec F S9x15 .f32) (f : arg8.view.ty.Contents (Elt F)),
    arg8.view.read (Elt F) (arg8.view.writes (Elt F) f (dequantRun c i arg1 harg1 arg2 harg2 arg3 harg3 arg4 harg4 arg5 harg5 arg6 harg6 arg7 harg7 arg8 harg8 arg9 harg9 arg10 harg10 arg11 harg11 arg12 harg12 x2 x3).1) = dq x2 x3
  code_eq : ∀ (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x4 : Vec F S1x1920 .bf16) (xs0 : Vec F S1152x1920 .bf16) (xs2 : Vec F S512x1920 .f32) (xs3 : Vec F S512x128 .f32) (f : arg6.view.ty.Contents (Elt F)),
    arg6.view.read (Elt F) (arg6.view.writes (Elt F) f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.1) = code xs2 xs3
  scl_eq : ∀ (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x4 : Vec F S1x1920 .bf16) (xs0 : Vec F S1152x1920 .bf16) (xs2 : Vec F S512x1920 .f32) (xs3 : Vec F S512x128 .f32) (f : arg7.view.ty.Contents (Elt F)),
    arg7.view.read (Elt F) (arg7.view.writes (Elt F) f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.2.1) = scl (hid x0 x1 x4 xs0)
  hid_eq : ∀ (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x4 : Vec F S1x1920 .bf16) (xs0 : Vec F S1152x1920 .bf16) (xs2 : Vec F S512x1920 .f32) (xs3 : Vec F S512x128 .f32) (f : arg10.view.ty.Contents (Elt F)),
    arg10.view.read (Elt F) (arg10.view.writes (Elt F) f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.2.2.1) = hid x0 x1 x4 xs0
  inv_eq : ∀ (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x4 : Vec F S1x1920 .bf16) (xs0 : Vec F S1152x1920 .bf16) (xs2 : Vec F S512x1920 .f32) (xs3 : Vec F S512x128 .f32) (f : arg11.view.ty.Contents (Elt F)),
    arg11.view.read (Elt F) (arg11.view.writes (Elt F) f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.2.2.2) = inv (hid x0 x1 x4 xs0)

variable (W : Vals F)

/-- The body at a point that does not dequantise: the buffers end at the named values. -/
theorem rest_body (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec F S512x1152 .fp8e4m3) (x1 : Vec F S512x9 .f32) (x4 : Vec F S1x1920 .bf16) (xs0 : Vec F S1152x1920 .bf16) (xs2 : Vec F S512x1920 .f32) (xs3 : Vec F S512x128 .f32) (E : Set ℕ) (K : PUnit → sProp 𝕄) :
    iprop(owns (c : Thread nD τ) arg1 fullShare x0 ∗ owns (c : Thread nD τ) arg2 fullShare x1 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ owns (c : Thread nD τ) arg10 fullShare xs2 ∗ owns (c : Thread nD τ) arg11 fullShare xs3 ∗ (∃ d, owns (c : Thread nD τ) arg12 fullShare d)
        ∗ (iprop(owns (c : Thread nD τ) arg1 fullShare x0 ∗ owns (c : Thread nD τ) arg2 fullShare x1 ∗ owns (c : Thread nD τ) arg5 fullShare x4 ∗ owns (c : Thread nD τ) arg6 fullShare (W.code xs2 xs3) ∗ owns (c : Thread nD τ) arg7 fullShare (W.scl (W.hid x0 x1 x4 xs0)) ∗ owns (c : Thread nD τ) arg8 fullShare xs0 ∗ (∃ d, owns (c : Thread nD τ) arg9 fullShare d) ∗ owns (c : Thread nD τ) arg10 fullShare (W.hid x0 x1 x4 xs0) ∗ owns (c : Thread nD τ) arg11 fullShare (W.inv (W.hid x0 x1 x4 xs0)) ∗ (∃ d, owns (c : Thread nD τ) arg12 fullShare d)) -∗ K ⟨⟩))
      ⊢ wp frame (wpE (defs₀ (F := F)) Variants.none c none) E (cc0_fp8_linear_gelu_quant i arg1 harg1 arg2 harg2 arg3 harg3 arg4 harg4 arg5 harg5 arg6 harg6 arg7 harg7 arg8 harg8 arg9 harg9 arg10 harg10 arg11 harg11 arg12 harg12) K := by
  iintro ⟨H0, H1, H4, H5, H6, HS0, HS1, HS2, HS3, HS4, Hk⟩
  iapply ((restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).2 E K)
  isplitl [H0]; · iexact H0
  isplitl [H1]; · iexact H1
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H4, ⟨%f5, H5⟩, ⟨%f6, H6⟩, HS0, HS1, ⟨%g2, HS2⟩, ⟨%g3, HS3⟩, HS4⟩
  iapply Hk
  isplitl [H0]; · iexact H0
  isplitl [H1]; · iexact H1
  isplitl [H4]; · iexact H4
  isplitl [H5]
  · unfold owns; iexists _; isplitr
    swap; · iexact H5
    ipureintro; exact W.code_eq c i arg1 harg1 arg2 harg2 arg3 harg3 arg4 harg4 arg5 harg5 arg6 harg6 arg7 harg7 arg8 harg8 arg9 harg9 arg10 harg10 arg11 harg11 arg12 harg12 hc0 x0 x1 x4 xs0 xs2 xs3 f5
  isplitl [H6]
  · unfold owns; iexists _; isplitr
    swap; · iexact H6
    ipureintro; exact W.scl_eq c i arg1 harg1 arg2 harg2 arg3 harg3 arg4 harg4 arg5 harg5 arg6 harg6 arg7 harg7 arg8 harg8 arg9 harg9 arg10 harg10 arg11 harg11 arg12 harg12 hc0 x0 x1 x4 xs0 xs2 xs3 f6
  isplitl [HS0]; · iexact HS0
  isplitl [HS1]; · iexact HS1
  isplitl [HS2]
  · unfold owns; iexists _; isplitr
    swap; · iexact HS2
    ipureintro; exact W.hid_eq c i arg1 harg1 arg2 harg2 arg3 harg3 arg4 harg4 arg5 harg5 arg6 harg6 arg7 harg7 arg8 harg8 arg9 harg9 arg10 harg10 arg11 harg11 arg12 harg12 hc0 x0 x1 x4 xs0 xs2 xs3 g2
  isplitl [HS3]
  · unfold owns; iexists _; isplitr
    swap; · iexact HS3
    ipureintro; exact W.inv_eq c i arg1 harg1 arg2 harg2 arg3 harg3 arg4 harg4 arg5 harg5 arg6 harg6 arg7 harg7 arg8 harg8 arg9 harg9 arg10 harg10 arg11 harg11 arg12 harg12 hc0 x0 x1 x4 xs0 xs2 xs3 g3
  iexact HS4

/-- The body at the point that dequantises: the same, over the weights it has just dequantised. -/
theorem first_body (c : Dev nD) (i i' : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc : cond0_0 i) (hc0 : ¬cond0_0 i')
    (x0 : Vec F S512x1152 .fp8e4m3) (x1 : Vec F S512x9 .f32) (x4 : Vec F S1x1920 .bf16) (x2 : Vec F S1152x1920 .fp8e4m3) (x3 : Vec F S9x15 .f32) (xs2 : Vec F S512x1920 .f32) (xs3 : Vec F S512x128 .f32) (E : Set ℕ) (K : PUnit → sProp 𝕄) :
    iprop(owns (c : Thread nD τ) arg1 fullShare x0 ∗ owns (c : Thread nD τ) arg2 fullShare x1 ∗ owns (c : Thread nD τ) arg5 fullShare x4 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2 ∗ owns (c : Thread nD τ) arg11 fullShare xs3 ∗ (∃ d, owns (c : Thread nD τ) arg12 fullShare d)
        ∗ (iprop(owns (c : Thread nD τ) arg3 fullShare x2 ∗ owns (c : Thread nD τ) arg4 fullShare x3 ∗ owns (c : Thread nD τ) arg1 fullShare x0 ∗ owns (c : Thread nD τ) arg2 fullShare x1 ∗ owns (c : Thread nD τ) arg5 fullShare x4 ∗ owns (c : Thread nD τ) arg6 fullShare (W.code xs2 xs3) ∗ owns (c : Thread nD τ) arg7 fullShare (W.scl (W.hid x0 x1 x4 (W.dq x2 x3))) ∗ owns (c : Thread nD τ) arg8 fullShare (W.dq x2 x3) ∗ (∃ d, owns (c : Thread nD τ) arg9 fullShare d) ∗ owns (c : Thread nD τ) arg10 fullShare (W.hid x0 x1 x4 (W.dq x2 x3)) ∗ owns (c : Thread nD τ) arg11 fullShare (W.inv (W.hid x0 x1 x4 (W.dq x2 x3))) ∗ (∃ d, owns (c : Thread nD τ) arg12 fullShare d)) -∗ K ⟨⟩))
      ⊢ wp frame (wpE (defs₀ (F := F)) Variants.none c none) E (cc0_fp8_linear_gelu_quant i arg1 harg1 arg2 harg2 arg3 harg3 arg4 harg4 arg5 harg5 arg6 harg6 arg7 harg7 arg8 harg8 arg9 harg9 arg10 harg10 arg11 harg11 arg12 harg12) K := by
  rw [body_split i i' hc hc0]
  refine BIBase.Entails.trans ?_ (Entails.of_eq (Idealize.SL.Sem.wp_bind _ _ _ _ _ _).symm)
  iintro ⟨H0, H1, H4, H2, H3, H5, H6, HS0, HS1, HS2, HS3, HS4, Hk⟩
  iapply ((dequantRun c i arg1 harg1 arg2 harg2 arg3 harg3 arg4 harg4 arg5 harg5 arg6 harg6 arg7 harg7 arg8 harg8 arg9 harg9 arg10 harg10 arg11 harg11 arg12 harg12 x2 x3).2 E _)
  isplitl [H2]; · iexact H2
  isplitl [H3]; · iexact H3
  isplitl [HS0]; · iexact HS0
  iintro ⟨H2, H3, ⟨%g0, HS0⟩⟩
  iapply (rest_body W c i' arg1 harg1 arg2 harg2 arg3 harg3 arg4 harg4 arg5 harg5 arg6 harg6 arg7 harg7 arg8 harg8 arg9 harg9 arg10 harg10 arg11 harg11 arg12 harg12 hc0 x0 x1 x4 (W.dq x2 x3) xs2 xs3 E K)
  isplitl [H0]; · iexact H0
  isplitl [H1]; · iexact H1
  isplitl [H4]; · iexact H4
  isplitl [H5]; · iexact H5
  isplitl [H6]; · iexact H6
  isplitl [HS0]
  · unfold owns; iexists _; isplitr
    swap; · iexact HS0
    ipureintro; exact W.dq_eq c i arg1 harg1 arg2 harg2 arg3 harg3 arg4 harg4 arg5 harg5 arg6 harg6 arg7 harg7 arg8 harg8 arg9 harg9 arg10 harg10 arg11 harg11 arg12 harg12 x2 x3 g0
  isplitl [HS1]; · iexact HS1
  isplitl [HS2]; · iexact HS2
  isplitl [HS3]; · iexact HS3
  isplitl [HS4]; · iexact HS4
  iintro H
  iapply Hk
  isplitl [H2]; · iexact H2
  isplitl [H3]; · iexact H3
  iexact H

end Cert.KernelIdeal.Body

end
-- ==== Proof.KiDqVal.lean ====
module

public import proofs.«01_k».proof.Proof.KiBody
public import proofs.«01_k».proof.Proof.RowFns
public import Idealize.ShloMosaic.Lib.Pointwise
public import Idealize.ShloMosaic.Lib.Pipeline.ValueKit.Tiles
public import Idealize.ShloMosaic.Lib.MatmulPlain

@[expose] public section

set_option maxRecDepth 16384

noncomputable section

namespace Cert.KernelIdeal.Body

open Cert.KernelIdeal.Gen
open Idealize.ShloMosaic hiding ix1 ix2 ix3 eq_ix2
open Idealize.ShloMosaic.TcCoe Idealize.ShloMosaic.Tactic Idealize.ShloMosaic.ValueIdx
open scoped BigOperators

local notation "EI" => Elt Ideal

/-- Reading a whole operand through a unit rectangle, at an index. -/
theorem readAt_unit {sp : Space} {s : Shape} {e : EltTy} (arg : Memref sig .tc sp s e) (h : arg.IsWhole) (X : Vec Ideal s e)
    (off size : Fin s.rank → ℕ) (inb : ∀ a, off a + size a ≤ s.size a) (x : (Rect.unit off size inb).shape.Idx) (i : s.Idx)
    (hi : ∀ a, (i a : ℕ) = off a + x a) :
    View.readAt EI arg.view (Rect.unit off size inb).toLoadRect (h.unread X) x = X i := by
  show View.ld (arg.view.read EI (h.unread X)) (Rect.unit off size inb) x = X i
  rw [h.read_unread]
  exact View.ld_unit_apply_of X off size inb x i hi

/-- The dequantised weight: the code times its tile's scale. -/
def dqI (w : Vec Ideal S1152x1920 .fp8e4m3) (s : Vec Ideal S9x15 .f32) : Vec Ideal S1152x1920 .bf16 := fun y =>
  (w y : EReal) * (s (ix2 ⟨(y 0).val / 128, by have := (y 0).isLt; change (y 0).val < 1152 at this; omega⟩
    ⟨(y 1).val / 128, by have := (y 1).isLt; change (y 1).val < 1920 at this; omega⟩) : EReal)

/-- One tile's store holds the dequantised weight there. -/
theorem dq_piece (arg3 : Memref sig .tc .vmem S1152x1920 .fp8e4m3) (harg3 : arg3.IsWhole) (arg4 : Memref sig .tc .smem S9x15 .f32) (harg4 : arg4.IsWhole)
    (x2 : Vec Ideal S1152x1920 .fp8e4m3) (x3 : Vec Ideal S9x15 .f32) (A B a b : ℕ) (hA : A = 128 * a) (hB : B = 128 * b)
    (inb : ∀ d, (![A, B] : Fin 2 → ℕ) d + (![128, 128] : Fin 2 → ℕ) d ≤ S1152x1920.size d)
    (inb' : ∀ d, (![a, b] : Fin 2 → ℕ) d + S1x1.size d ≤ S9x15.size d) (z : S1x1.Idx)
    (x : (Rect.unit (s := S1152x1920) ![A, B] ![128, 128] inb).shape.Idx) :
    k0_pay4 (F := Ideal) (View.readAt EI arg4.view (Rect.unit (s := S9x15) ![a, b] S1x1.size inb').toLoadRect (harg4.unread x3) z)
      (View.readAt EI arg3.view (Rect.unit (s := S1152x1920) ![A, B] ![128, 128] inb).toLoadRect (harg3.unread x2)) x
      = dqI x2 x3 ((Rect.unit (s := S1152x1920) ![A, B] ![128, 128] inb).emb x) := by
  have h0 : (x 0).val < 128 := (x 0).isLt
  have h1 : (x 1).val < 128 := (x 1).isLt
  unfold k0_pay4
  simp only [shapeCast_self]
  have e3 := readAt_unit arg3 harg3 x2 ![A, B] ![128, 128] inb x ((Rect.unit (s := S1152x1920) ![A, B] ![128, 128] inb).emb x)
    (fun d => by rw [Rect.emb_apply]; show _ + 1 * _ = _; rw [Nat.one_mul]; rfl)
  have z0 : (z 0).val = 0 := by have := (z 0).isLt; change (z 0).val < 1 at this; omega
  have z1 : (z 1).val = 0 := by have := (z 1).isLt; change (z 1).val < 1 at this; omega
  have e4 := readAt_unit arg4 harg4 x3 ![a, b] S1x1.size inb' z (ix2
      ⟨(((Rect.unit (s := S1152x1920) ![A, B] ![128, 128] inb).emb x) 0).val / 128, by have := (((Rect.unit (s := S1152x1920) ![A, B] ![128, 128] inb).emb x) 0).isLt; change _ < 1152 at this; omega⟩
      ⟨(((Rect.unit (s := S1152x1920) ![A, B] ![128, 128] inb).emb x) 1).val / 128, by have := (((Rect.unit (s := S1152x1920) ![A, B] ![128, 128] inb).emb x) 1).isLt; change _ < 1920 at this; omega⟩)
    (fun d => by
      match d with
      | ⟨0, _⟩ => show (A + 1 * (x 0).val) / 128 = a + (z 0).val; omega
      | ⟨1, _⟩ => show (B + 1 * (x 1).val) / 128 = b + (z 1).val; omega)
  unfold dqI
  rw [← e3, ← e4]
  rfl

theorem dq_eqI (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole)
    (x2 : Vec Ideal S1152x1920 .fp8e4m3) (x3 : Vec Ideal S9x15 .f32) (f : arg8.view.ty.Contents EI) :
    arg8.view.read EI (arg8.view.writes EI f (dequantRun c i arg1 harg1 arg2 harg2 arg3 harg3 arg4 harg4 arg5 harg5 arg6 harg6 arg7 harg7 arg8 harg8 arg9 harg9 arg10 harg10 arg11 harg11 arg12 harg12 x2 x3).1) = dqI x2 x3 := by
  unfold dequantRun
  dsimp only
  sl_unfold_words
  funext y
  refine View.read_writes_apply_of_pieces _ _ (dqI x2 x3) _ ?_ y ?_
  · repeat' refine List.forall_mem_cons.mpr ⟨?_, ?_⟩
    all_goals first
      | (intro x; dsimp only; refine dq_piece arg3 harg3 arg4 harg4 x2 x3 _ _ _ _ ?_ ?_ _ _ _ x <;> rfl)
      | exact fun p hp => absurd hp List.not_mem_nil
  · exact View.cover_of_tiled _ ![128, 128] (by rfl) y

end Cert.KernelIdeal.Body

end
-- ==== Proof.KiHidVal.lean ====
module

public import proofs.«01_k».proof.Proof.KiBody
public import proofs.«01_k».proof.Proof.RowFns
public import proofs.«01_k».proof.Proof.KiDqVal
public import Idealize.ShloMosaic.Lib.Pointwise
public import Idealize.ShloMosaic.Lib.Pipeline.ValueKit.Tiles
public import Idealize.ShloMosaic.Lib.MatmulPlain

@[expose] public section

set_option maxRecDepth 16384

noncomputable section

namespace Cert.KernelIdeal.Body

open Cert.KernelIdeal.Gen
open Idealize.ShloMosaic hiding ix1 ix2 ix3 eq_ix2
open Idealize.ShloMosaic.TcCoe Idealize.ShloMosaic.Tactic Idealize.ShloMosaic.ValueIdx
open scoped BigOperators

local notation "EI" => Elt Ideal

/-- The activations scaled back: the code times its group's scale. -/
def xbI (x0 : Vec Ideal S512x1152 .fp8e4m3) (x1 : Vec Ideal S512x9 .f32) : Vec Ideal S512x1152 .bf16 := fun y =>
  (x0 y : EReal) * (x1 (ix2 (n0 := 512) (n1 := 9) (y 0) ⟨(y 1).val / 128, by have := (y 1).isLt; change (y 1).val < 1152 at this; omega⟩) : EReal)

/-- The hidden block from the activations scaled back: product, bias, activation. -/
def hidG (xb : Vec Ideal S512x1152 .bf16) (x4 : Vec Ideal S1x1920 .bf16) (wb : Vec Ideal S1152x1920 .bf16) : Vec Ideal S512x1920 .f32 := fun y =>
  Cert.RowFns.gel ((∑ k : Fin 1152, (xb (ix2 (n0 := 512) (n1 := 1152) (y 0) k) : EReal) * (wb (ix2 (n0 := 1152) (n1 := 1920) k (y 1)) : EReal))
    + (x4 (ix2 (n0 := 1) (n1 := 1920) 0 (y 1)) : EReal))

/-- The hidden block from the operands. -/
def hidI (x0 : Vec Ideal S512x1152 .fp8e4m3) (x1 : Vec Ideal S512x9 .f32) (x4 : Vec Ideal S1x1920 .bf16) (wb : Vec Ideal S1152x1920 .bf16) : Vec Ideal S512x1920 .f32 :=
  hidG (xbI x0 x1) x4 wb

theorem xb_piece (arg1 : Memref sig .tc .vmem S512x1152 .fp8e4m3) (harg1 : arg1.IsWhole) (arg2 : Memref sig .tc .vmem S512x9 .f32) (harg2 : arg2.IsWhole)
    (x0 : Vec Ideal S512x1152 .fp8e4m3) (x1 : Vec Ideal S512x9 .f32) (B b : ℕ) (hB : B = 128 * b)
    (inb : ∀ d, (![0, B] : Fin 2 → ℕ) d + S512x128.size d ≤ S512x1152.size d)
    (inb' : ∀ d, (![0, b] : Fin 2 → ℕ) d + S512x1.size d ≤ S512x9.size d)
    (x : (Rect.unit (s := S512x1152) ![0, B] S512x128.size inb).shape.Idx) :
    k0_pay166 (F := Ideal) (View.readAt EI arg2.view (Rect.unit (s := S512x9) ![0, b] S512x1.size inb').toLoadRect (harg2.unread x1))
      (View.readAt EI arg1.view (Rect.unit (s := S512x1152) ![0, B] S512x128.size inb).toLoadRect (harg1.unread x0)) x
      = xbI x0 x1 ((Rect.unit (s := S512x1152) ![0, B] S512x128.size inb).emb x) := by
  obtain ⟨r, c, rfl⟩ : ∃ (r : Fin 512) (c : Fin 128), x = ix2 r c := ⟨x 0, x 1, eq_ix2 x⟩
  have hc := c.isLt
  have e1 := readAt_unit arg1 harg1 x0 ![0, B] S512x128.size inb (ix2 r c) ((Rect.unit (s := S512x1152) ![0, B] S512x128.size inb).emb (ix2 r c))
    (fun d => by rw [Rect.emb_apply]; show _ + 1 * _ = _; rw [Nat.one_mul]; rfl)
  have e2 := readAt_unit arg2 harg2 x1 ![0, b] S512x1.size inb' (ix2 r (0 : Fin 1))
    (ix2 (n0 := 512) (n1 := 9) (((Rect.unit (s := S512x1152) ![0, B] S512x128.size inb).emb (ix2 r c)) 0)
      ⟨(((Rect.unit (s := S512x1152) ![0, B] S512x128.size inb).emb (ix2 r c)) 1).val / 128, by have := (((Rect.unit (s := S512x1152) ![0, B] S512x128.size inb).emb (ix2 r c)) 1).isLt; change _ < 1152 at this; omega⟩)
    (fun d => by
      match d with
      | ⟨0, _⟩ => show 0 + 1 * r.val = 0 + r.val; omega
      | ⟨1, _⟩ => show (B + 1 * c.val) / 128 = b + 0; omega)
  have eb : broadcastTo S512x128 (View.readAt EI arg2.view (Rect.unit (s := S512x9) ![0, b] S512x1.size inb').toLoadRect (harg2.unread x1)) broadcasts_S512x1_S512x128 (ix2 r c) = _ :=
    (broadcastTo_apply _ _ _ (ix2 r (0 : Fin 1)) fun a => by
      match a with
      | ⟨0, _⟩ => rfl
      | ⟨1, _⟩ => rfl).trans e2
  unfold k0_pay166 xbI
  simp only [shapeCast_self]
  rw [← e1, ← eb]
  rfl

/-- The scratch of scaled activations, read whole. -/
theorem v128_eq (c : Dev nD) (arg1 : Memref sig .tc .vmem S512x1152 .fp8e4m3) (harg1 : arg1.IsWhole) (arg2 : Memref sig .tc .vmem S512x9 .f32) (harg2 : arg2.IsWhole)
    (arg9 : Memref sig .tc .vmem S512x1152 .bf16) (x0 : Vec Ideal S512x1152 .fp8e4m3) (x1 : Vec Ideal S512x9 .f32) :
    restRun.sl.v128 (F := Ideal) c arg1 harg1 arg2 harg2 arg9 x0 x1 = xbI x0 x1 := by
  unfold restRun.sl.v128
  have hcov : ∀ y, ∃ p ∈ restRun.sl.HS1_9 (F := Ideal) c arg1 harg1 arg2 harg2 x0 x1, y ∈ p.1.set :=
    View.cover_of_tiled _ ![512, 128] (by rfl)
  rw [View.readCov_eq_canon_ld _ _ _ hcov, View.ld_unit_lit _ _ (fun a => by match a with | ⟨0, _⟩ => rfl | ⟨1, _⟩ => rfl)]
  funext y
  refine View.canon_apply_of_pieces (xbI x0 x1) _ ?_ y (hcov y)
  unfold restRun.sl.HS1_9
  repeat' refine List.forall_mem_cons.mpr ⟨?_, ?_⟩
  all_goals first
    | (intro x; dsimp only; refine xb_piece arg1 harg1 arg2 harg2 x0 x1 _ _ ?_ _ _ x <;> rfl)
    | exact fun p hp => absurd hp List.not_mem_nil

/-- A chunk of 256 columns of the hidden block, before it is stored. -/
theorem hid_at256 (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16) (B : ℕ) (hB : B + 256 ≤ 1920)
    (inb8 : ∀ d, (![0, B] : Fin 2 → ℕ) d + S1152x256.size d ≤ S1152x1920.size d)
    (inb5 : ∀ d, (![0, B] : Fin 2 → ℕ) d + S1x256.size d ≤ S1x1920.size d) (r : Fin 512) (c : Fin 256) :
    k0_pay212 (F := Ideal) xb (View.readAt EI arg8.view (Rect.unit (s := S1152x1920) ![0, B] S1152x256.size inb8).toLoadRect (harg8.unread xs0))
      (View.readAt EI arg5.view (Rect.unit (s := S1x1920) ![0, B] S1x256.size inb5).toLoadRect (harg5.unread x4)) (ix2 r c)
      = hidG xb x4 xs0 (ix2 r (⟨B + c.val, by have := c.isLt; omega⟩ : Fin 1920)) := by
  have e5 := readAt_unit arg5 harg5 x4 ![0, B] S1x256.size inb5 (ix2 (0 : Fin 1) c) (ix2 (0 : Fin 1) (⟨B + c.val, by have := c.isLt; omega⟩ : Fin 1920))
    (fun d => by match d with | ⟨0, _⟩ => rfl | ⟨1, _⟩ => rfl)
  have e8 : ∀ k : Fin 1152, View.readAt EI arg8.view (Rect.unit (s := S1152x1920) ![0, B] S1152x256.size inb8).toLoadRect (harg8.unread xs0) (ix2 k c)
      = xs0 (ix2 k (⟨B + c.val, by have := c.isLt; omega⟩ : Fin 1920)) := fun k =>
    readAt_unit arg8 harg8 xs0 ![0, B] S1152x256.size inb8 (ix2 k c) _
      (fun d => by match d with | ⟨0, _⟩ => exact (Nat.zero_add _).symm | ⟨1, _⟩ => rfl)
  have em := Ideal.matmul_plain_apply (M := 512) (K := 1152) (N := 256) (φ₁ := .bf16) (φ₂ := .bf16) none xb
    (View.readAt EI arg8.view (Rect.unit (s := S1152x1920) ![0, B] S1152x256.size inb8).toLoadRect (harg8.unread xs0))
    (constant (F := Ideal) S512x256 .f32 0x00000000#32) r c
  have ez : ∀ v : EReal, constant (F := Ideal) S512x256 .f32 0x00000000#32 (ix2 r c) + v = v := fun v => by
    show Ideal.ofBits .f32 0x00000000#32 + v = v
    rw [Cert.RowFns.w0, zero_add]
  rw [ez, Finset.sum_congr rfl fun k _ => congrArg (fun v => (xb (ix2 r k) : EReal) * v) (e8 k)] at em
  have eb : broadcastTo S512x256 (extf (F := Ideal) .f32 (shapeCast S1x256 (View.readAt EI arg5.view (Rect.unit (s := S1x1920) ![0, B] S1x256.size inb5).toLoadRect (harg5.unread x4)) shapeCasts_S1x256_S1x256) bitsLt_bf16_f32)
      broadcasts_S1x256_S512x256 (ix2 r c) = (x4 (ix2 (0 : Fin 1) (⟨B + c.val, by have := c.isLt; omega⟩ : Fin 1920)) : EReal) := by
    refine (broadcastTo_apply _ _ _ (ix2 (0 : Fin 1) c) fun a => ?_).trans
      ((congrFun (shapeCast_self (s := S1x256) (View.readAt EI arg5.view (Rect.unit (s := S1x1920) ![0, B] S1x256.size inb5).toLoadRect (harg5.unread x4)) shapeCasts_S1x256_S1x256) (ix2 (0 : Fin 1) c)).trans e5)
    match a with
    | ⟨0, _⟩ => rfl
    | ⟨1, _⟩ => rfl
  unfold hidG
  show Cert.RowFns.gel (FloatOps.matmul (DotDims.plain 512 1152 256) none xb _ (constant (F := Ideal) S512x256 .f32 0x00000000#32) (ix2 r c) + broadcastTo S512x256 _ _ (ix2 r c)) = _
  rw [eb, em]

/-- A chunk of 128 columns of the hidden block, before it is stored. -/
theorem hid_at128 (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16) (B : ℕ) (hB : B + 128 ≤ 1920)
    (inb8 : ∀ d, (![0, B] : Fin 2 → ℕ) d + S1152x128.size d ≤ S1152x1920.size d)
    (inb5 : ∀ d, (![0, B] : Fin 2 → ℕ) d + S1x128.size d ≤ S1x1920.size d) (r : Fin 512) (c : Fin 128) :
    k0_pay216 (F := Ideal) xb (View.readAt EI arg8.view (Rect.unit (s := S1152x1920) ![0, B] S1152x128.size inb8).toLoadRect (harg8.unread xs0))
      (View.readAt EI arg5.view (Rect.unit (s := S1x1920) ![0, B] S1x128.size inb5).toLoadRect (harg5.unread x4)) (ix2 r c)
      = hidG xb x4 xs0 (ix2 r (⟨B + c.val, by have := c.isLt; omega⟩ : Fin 1920)) := by
  have e5 := readAt_unit arg5 harg5 x4 ![0, B] S1x128.size inb5 (ix2 (0 : Fin 1) c) (ix2 (0 : Fin 1) (⟨B + c.val, by have := c.isLt; omega⟩ : Fin 1920))
    (fun d => by match d with | ⟨0, _⟩ => rfl | ⟨1, _⟩ => rfl)
  have e8 : ∀ k : Fin 1152, View.readAt EI arg8.view (Rect.unit (s := S1152x1920) ![0, B] S1152x128.size inb8).toLoadRect (harg8.unread xs0) (ix2 k c)
      = xs0 (ix2 k (⟨B + c.val, by have := c.isLt; omega⟩ : Fin 1920)) := fun k =>
    readAt_unit arg8 harg8 xs0 ![0, B] S1152x128.size inb8 (ix2 k c) _
      (fun d => by match d with | ⟨0, _⟩ => exact (Nat.zero_add _).symm | ⟨1, _⟩ => rfl)
  have em := Ideal.matmul_plain_apply (M := 512) (K := 1152) (N := 128) (φ₁ := .bf16) (φ₂ := .bf16) none xb
    (View.readAt EI arg8.view (Rect.unit (s := S1152x1920) ![0, B] S1152x128.size inb8).toLoadRect (harg8.unread xs0))
    (constant (F := Ideal) S512x128 .f32 0x00000000#32) r c
  have ez : ∀ v : EReal, constant (F := Ideal) S512x128 .f32 0x00000000#32 (ix2 r c) + v = v := fun v => by
    show Ideal.ofBits .f32 0x00000000#32 + v = v
    rw [Cert.RowFns.w0, zero_add]
  rw [ez, Finset.sum_congr rfl fun k _ => congrArg (fun v => (xb (ix2 r k) : EReal) * v) (e8 k)] at em
  have eb : broadcastTo S512x128 (extf (F := Ideal) .f32 (shapeCast S1x128 (View.readAt EI arg5.view (Rect.unit (s := S1x1920) ![0, B] S1x128.size inb5).toLoadRect (harg5.unread x4)) shapeCasts_S1x128_S1x128) bitsLt_bf16_f32)
      broadcasts_S1x128_S512x128 (ix2 r c) = (x4 (ix2 (0 : Fin 1) (⟨B + c.val, by have := c.isLt; omega⟩ : Fin 1920)) : EReal) := by
    refine (broadcastTo_apply _ _ _ (ix2 (0 : Fin 1) c) fun a => ?_).trans
      ((congrFun (shapeCast_self (s := S1x128) (View.readAt EI arg5.view (Rect.unit (s := S1x1920) ![0, B] S1x128.size inb5).toLoadRect (harg5.unread x4)) shapeCasts_S1x128_S1x128) (ix2 (0 : Fin 1) c)).trans e5)
    match a with
    | ⟨0, _⟩ => rfl
    | ⟨1, _⟩ => rfl
  unfold hidG
  show Cert.RowFns.gel (FloatOps.matmul (DotDims.plain 512 1152 128) none xb _ (constant (F := Ideal) S512x128 .f32 0x00000000#32) (ix2 r c) + broadcastTo S512x128 _ _ (ix2 r c)) = _
  rw [eb, em]

theorem hid_piece256 (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16) (B : ℕ) (hB : B + 256 ≤ 1920)
    (inb8 : ∀ d, (![0, B] : Fin 2 → ℕ) d + S1152x256.size d ≤ S1152x1920.size d)
    (inb5 : ∀ d, (![0, B] : Fin 2 → ℕ) d + S1x256.size d ≤ S1x1920.size d)
    (inb : ∀ d, (![0, B] : Fin 2 → ℕ) d + (![512, 256] : Fin 2 → ℕ) d ≤ S512x1920.size d)
    (x : (Rect.unit (s := S512x1920) ![0, B] ![512, 256] inb).shape.Idx) :
    k0_pay213 (F := Ideal) xb (View.readAt EI arg8.view (Rect.unit (s := S1152x1920) ![0, B] S1152x256.size inb8).toLoadRect (harg8.unread xs0))
      (View.readAt EI arg5.view (Rect.unit (s := S1x1920) ![0, B] S1x256.size inb5).toLoadRect (harg5.unread x4)) x
      = hidG xb x4 xs0 ((Rect.unit (s := S512x1920) ![0, B] ![512, 256] inb).emb x) := by
  obtain ⟨r, c, rfl⟩ : ∃ (r : Fin 512) (c : Fin 256), x = ix2 r c := ⟨x 0, x 1, eq_ix2 x⟩
  unfold k0_pay213
  rw [shapeCast_self, hid_at256 xb arg5 harg5 arg8 harg8 x4 xs0 B hB inb8 inb5 r c]
  refine congrArg _ (funext fun d => Fin.ext ?_)
  match d with
  | ⟨0, _⟩ => show r.val = 0 + 1 * r.val; omega
  | ⟨1, _⟩ => show B + c.val = B + 1 * c.val; omega

theorem hid_piece128 (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16) (B : ℕ) (hB : B + 128 ≤ 1920)
    (inb8 : ∀ d, (![0, B] : Fin 2 → ℕ) d + S1152x128.size d ≤ S1152x1920.size d)
    (inb5 : ∀ d, (![0, B] : Fin 2 → ℕ) d + S1x128.size d ≤ S1x1920.size d)
    (inb : ∀ d, (![0, B] : Fin 2 → ℕ) d + (![512, 128] : Fin 2 → ℕ) d ≤ S512x1920.size d)
    (x : (Rect.unit (s := S512x1920) ![0, B] ![512, 128] inb).shape.Idx) :
    k0_pay217 (F := Ideal) xb (View.readAt EI arg8.view (Rect.unit (s := S1152x1920) ![0, B] S1152x128.size inb8).toLoadRect (harg8.unread xs0))
      (View.readAt EI arg5.view (Rect.unit (s := S1x1920) ![0, B] S1x128.size inb5).toLoadRect (harg5.unread x4)) x
      = hidG xb x4 xs0 ((Rect.unit (s := S512x1920) ![0, B] ![512, 128] inb).emb x) := by
  obtain ⟨r, c, rfl⟩ : ∃ (r : Fin 512) (c : Fin 128), x = ix2 r c := ⟨x 0, x 1, eq_ix2 x⟩
  unfold k0_pay217
  rw [shapeCast_self, hid_at128 xb arg5 harg5 arg8 harg8 x4 xs0 B hB inb8 inb5 r c]
  refine congrArg _ (funext fun d => Fin.ext ?_)
  match d with
  | ⟨0, _⟩ => show r.val = 0 + 1 * r.val; omega
  | ⟨1, _⟩ => show B + c.val = B + 1 * c.val; omega

theorem hid_eqI (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec Ideal S512x1152 .fp8e4m3) (x1 : Vec Ideal S512x9 .f32) (x4 : Vec Ideal S1x1920 .bf16) (xs0 : Vec Ideal S1152x1920 .bf16) (xs2 : Vec Ideal S512x1920 .f32) (xs3 : Vec Ideal S512x128 .f32) (f : arg10.view.ty.Contents EI) :
    arg10.view.read EI (arg10.view.writes EI f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.2.2.1) = hidI x0 x1 x4 xs0 := by
  unfold restRun
  dsimp only
  unfold hidI
  rw [← v128_eq c arg1 harg1 arg2 harg2 arg9 x0 x1]
  unfold restRun.sl.r_3 restRun.sl.r_5 restRun.sl.r_7 restRun.sl.r_8 restRun.sl.r_9
  generalize restRun.sl.v128 (F := Ideal) c arg1 harg1 arg2 harg2 arg9 x0 x1 = xb
  funext y
  refine View.read_writes_apply_of_pieces _ _ (hidG xb x4 xs0) _ ?_ y ?_
  · refine List.forall_mem_cons.mpr ⟨?_, ?_⟩
    · intro x; dsimp only; exact hid_piece128 xb arg5 harg5 arg8 harg8 x4 xs0 _ (by decide) _ _ _ x
    repeat' refine List.forall_mem_cons.mpr ⟨?_, ?_⟩
    all_goals first
      | exact fun p hp => absurd hp List.not_mem_nil
      | (intro x; dsimp only; exact hid_piece256 xb arg5 harg5 arg8 harg8 x4 xs0 _ (by decide) _ _ _ x)
  · have h0 := (y 0).isLt
    have h1 := (y 1).isLt
    change (y 0).val < 512 at h0
    change (y 1).val < 1920 at h1
    have key : ∀ (o n : ℕ) (inb), o ≤ (y 1).val → (y 1).val < o + n → y ∈ (Rect.unit (s := S512x1920) ![0, o] ![512, n] inb).set := by
      intro o n inb ha hb
      refine (Rect.mem_set_unit (s := S512x1920) ..).mpr fun d => ?_
      match d with
      | ⟨0, _⟩ => exact ⟨Nat.zero_le _, h0.trans_le (Nat.le_add_left _ _)⟩
      | ⟨1, _⟩ => exact ⟨ha, hb⟩
    simp only [List.exists_mem_cons_iff]
    rcases Nat.lt_or_ge (y 1).val 256 with g | g
    · exact .inr (.inr (.inr (.inr (.inr (.inr (.inr (.inl (key 0 256 _ (by omega) (by omega)))))))))
    rcases Nat.lt_or_ge (y 1).val 512 with g | g
    · exact .inr (.inr (.inr (.inr (.inr (.inr (.inl (key 256 256 _ (by omega) (by omega))))))))
    rcases Nat.lt_or_ge (y 1).val 768 with g | g
    · exact .inr (.inr (.inr (.inr (.inr (.inl (key 512 256 _ (by omega) (by omega)))))))
    rcases Nat.lt_or_ge (y 1).val 1024 with g | g
    · exact .inr (.inr (.inr (.inr (.inl (key 768 256 _ (by omega) (by omega))))))
    rcases Nat.lt_or_ge (y 1).val 1280 with g | g
    · exact .inr (.inr (.inr (.inl (key 1024 256 _ (by omega) (by omega)))))
    rcases Nat.lt_or_ge (y 1).val 1536 with g | g
    · exact .inr (.inr (.inl (key 1280 256 _ (by omega) (by omega))))
    rcases Nat.lt_or_ge (y 1).val 1792 with g | g
    · exact .inr (.inl (key 1536 256 _ (by omega) (by omega)))
    exact .inl (key 1792 128 _ (by omega) (by omega))

end Cert.KernelIdeal.Body

end
-- ==== Proof.KiAmax.lean ====
module

public import proofs.«01_k».proof.Proof.KiBody
public import proofs.«01_k».proof.Proof.RowFns
public import proofs.«01_k».proof.Proof.KiHidVal
public import Idealize.ShloMosaic.Lib.Pointwise
public import Idealize.ShloMosaic.Lib.Pipeline.ValueKit.Tiles
public import Idealize.ShloMosaic.Lib.MatmulPlain

@[expose] public section

set_option maxRecDepth 16384

noncomputable section

namespace Cert.KernelIdeal.Body

open Cert.KernelIdeal.Gen
open Idealize.ShloMosaic hiding ix1 ix2 ix3 eq_ix2
open Idealize.ShloMosaic.TcCoe Idealize.ShloMosaic.Tactic Idealize.ShloMosaic.ValueIdx
open scoped BigOperators

local notation "EI" => Elt Ideal

/-- The absolute value. -/
def ab (v : EReal) : EReal := max v (-v)

/-- The largest absolute values of 256 columns from `B`, the two halves lane by lane. -/
def two (H : Vec Ideal S512x1920 .f32) (B : ℕ) (hB : B + 256 ≤ 1920) (x : S512x128.Idx) : EReal :=
  max (ab (H (ix2 (n0 := 512) (n1 := 1920) (x 0) ⟨B + (x 1).val, by have := (x 1).isLt; change (x 1).val < 128 at this; omega⟩)))
    (ab (H (ix2 (n0 := 512) (n1 := 1920) (x 0) ⟨B + 128 + (x 1).val, by have := (x 1).isLt; change (x 1).val < 128 at this; omega⟩)))

/-- The running maximum after the first chunk … -/
def am0 (H : Vec Ideal S512x1920 .f32) : Vec Ideal S512x128 .f32 := fun x => two H 0 (by decide) x
/-- … after a further chunk of 256 columns … -/
def mx (H : Vec Ideal S512x1920 .f32) (B : ℕ) (hB : B + 256 ≤ 1920) (prev : Vec Ideal S512x128 .f32) : Vec Ideal S512x128 .f32 := fun x =>
  max (prev x : EReal) (two H B hB x)
/-- … and after the last chunk of 128. -/
def mxl (H : Vec Ideal S512x1920 .f32) (prev : Vec Ideal S512x128 .f32) : Vec Ideal S512x128 .f32 := fun x =>
  max (prev x : EReal) (ab (H (ix2 (n0 := 512) (n1 := 1920) (x 0) ⟨1792 + (x 1).val, by have := (x 1).isLt; change (x 1).val < 128 at this; omega⟩)))

theorem two_at (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16) (B : ℕ) (hB : B + 256 ≤ 1920)
    (inb8 : ∀ d, (![0, B] : Fin 2 → ℕ) d + S1152x256.size d ≤ S1152x1920.size d)
    (inb5 : ∀ d, (![0, B] : Fin 2 → ℕ) d + S1x256.size d ≤ S1x1920.size d) (x : S512x128.Idx) :
    maximumf (F := Ideal) (φ := .f32)
      (extractStridedSlice S512x128 ![0, 0] (absf (k0_pay212 (F := Ideal) xb (View.readAt EI arg8.view (Rect.unit (s := S1152x1920) ![0, B] S1152x256.size inb8).toLoadRect (harg8.unread xs0))
        (View.readAt EI arg5.view (Rect.unit (s := S1x1920) ![0, B] S1x256.size inb5).toLoadRect (harg5.unread x4)))) slices_S512x256_o0_0_S512x128)
      (extractStridedSlice S512x128 ![0, 128] (absf (k0_pay212 (F := Ideal) xb (View.readAt EI arg8.view (Rect.unit (s := S1152x1920) ![0, B] S1152x256.size inb8).toLoadRect (harg8.unread xs0))
        (View.readAt EI arg5.view (Rect.unit (s := S1x1920) ![0, B] S1x256.size inb5).toLoadRect (harg5.unread x4)))) slices_S512x256_o0_128_S512x128) x
      = two (hidG xb x4 xs0) B hB x := by
  obtain ⟨r, c, rfl⟩ : ∃ (r : Fin 512) (c : Fin 128), x = ix2 r c := ⟨x 0, x 1, eq_ix2 x⟩
  have hc := c.isLt
  have ea := hid_at256 xb arg5 harg5 arg8 harg8 x4 xs0 B hB inb8 inb5 r ⟨c.val, by omega⟩
  have eb := hid_at256 xb arg5 harg5 arg8 harg8 x4 xs0 B hB inb8 inb5 r ⟨128 + c.val, by omega⟩
  generalize k0_pay212 (F := Ideal) xb _ _ = hv at ea eb ⊢
  show max (extractStridedSlice S512x128 ![0, 0] (absf hv) slices_S512x256_o0_0_S512x128 (ix2 r c) : EReal)
    (extractStridedSlice S512x128 ![0, 128] (absf hv) slices_S512x256_o0_128_S512x128 (ix2 r c)) = _
  rw [extractStridedSlice_apply _ _ _ _ (ix2 r (⟨c.val, by omega⟩ : Fin 256)) (fun a => by
      match a with
      | ⟨0, _⟩ => exact (Nat.zero_add _).symm
      | ⟨1, _⟩ => exact (Nat.zero_add _).symm),
    extractStridedSlice_apply _ _ _ _ (ix2 r (⟨128 + c.val, by omega⟩ : Fin 256)) (fun a => by
      match a with
      | ⟨0, _⟩ => exact (Nat.zero_add _).symm
      | ⟨1, _⟩ => rfl)]
  show max (ab (hv _)) (ab (hv _)) = _
  rw [ea, eb]
  unfold two
  simp only [Nat.add_assoc]

theorem am_first (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16)
    (inb8 : ∀ d, (![0, 0] : Fin 2 → ℕ) d + S1152x256.size d ≤ S1152x1920.size d)
    (inb5 : ∀ d, (![0, 0] : Fin 2 → ℕ) d + S1x256.size d ≤ S1x1920.size d) (x : S512x128.Idx) :
    k0_pay180 (F := Ideal) (k0_pay178 xb (View.readAt EI arg8.view (Rect.unit (s := S1152x1920) ![0, 0] S1152x256.size inb8).toLoadRect (harg8.unread xs0))
      (View.readAt EI arg5.view (Rect.unit (s := S1x1920) ![0, 0] S1x256.size inb5).toLoadRect (harg5.unread x4))) x
      = am0 (hidG xb x4 xs0) x := by
  unfold k0_pay180
  rw [shapeCast_self]
  exact two_at xb arg5 harg5 arg8 harg8 x4 xs0 0 (by decide) inb8 inb5 x

theorem am_piece (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16) (B : ℕ) (hB : B + 256 ≤ 1920)
    (inb8 : ∀ d, (![0, B] : Fin 2 → ℕ) d + S1152x256.size d ≤ S1152x1920.size d)
    (inb5 : ∀ d, (![0, B] : Fin 2 → ℕ) d + S1x256.size d ≤ S1x1920.size d) (prev : Vec Ideal S512x128 .f32) (x : S512x128.Idx) :
    k0_pay214 (F := Ideal) xb (View.readAt EI arg8.view (Rect.unit (s := S1152x1920) ![0, B] S1152x256.size inb8).toLoadRect (harg8.unread xs0))
      (View.readAt EI arg5.view (Rect.unit (s := S1x1920) ![0, B] S1x256.size inb5).toLoadRect (harg5.unread x4)) prev x
      = mx (hidG xb x4 xs0) B hB prev x := by
  unfold k0_pay214
  rw [shapeCast_self]
  exact congrArg (max (prev x : EReal)) (two_at xb arg5 harg5 arg8 harg8 x4 xs0 B hB inb8 inb5 x)

theorem am_last (xb : Vec Ideal S512x1152 .bf16) (arg5 : Memref sig .tc .vmem S1x1920 .bf16) (harg5 : arg5.IsWhole)
    (arg8 : Memref sig .tc .vmem S1152x1920 .bf16) (harg8 : arg8.IsWhole) (x4 : Vec Ideal S1x1920 .bf16) (xs0 : Vec Ideal S1152x1920 .bf16)
    (inb8 : ∀ d, (![0, 1792] : Fin 2 → ℕ) d + S1152x128.size d ≤ S1152x1920.size d)
    (inb5 : ∀ d, (![0, 1792] : Fin 2 → ℕ) d + S1x128.size d ≤ S1x1920.size d) (prev : Vec Ideal S512x128 .f32) (x : S512x128.Idx) :
    k0_pay218 (F := Ideal) xb (View.readAt EI arg8.view (Rect.unit (s := S1152x1920) ![0, 1792] S1152x128.size inb8).toLoadRect (harg8.unread xs0))
      (View.readAt EI arg5.view (Rect.unit (s := S1x1920) ![0, 1792] S1x128.size inb5).toLoadRect (harg5.unread x4)) prev x
      = mxl (hidG xb x4 xs0) prev x := by
  obtain ⟨r, c, rfl⟩ : ∃ (r : Fin 512) (c : Fin 128), x = ix2 r c := ⟨x 0, x 1, eq_ix2 x⟩
  unfold k0_pay218
  rw [shapeCast_self]
  exact congrArg (fun v => max (prev (ix2 r c) : EReal) (ab v)) (hid_at128 xb arg5 harg5 arg8 harg8 x4 xs0 1792 (by decide) inb8 inb5 r c)

theorem v193_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v193 (F := Ideal) c arg1 harg1 arg2 harg2 arg5 harg5 arg8 harg8 arg9 arg12 x0 x1 x4 xs0 = am0 (hidI x0 x1 x4 xs0) := by
  unfold restRun.sl.v193 restRun.sl.HS4_1
  rw [View.readCov_cons_toLoadRect]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_first xb arg5 harg5 arg8 harg8 x4 xs0 _ _ x

theorem v237_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v237 (F := Ideal) c arg1 harg1 arg2 harg2 arg5 harg5 arg8 harg8 arg9 arg12 x0 x1 x4 xs0 = (mx (hidI x0 x1 x4 xs0) 256 (by decide) (am0 (hidI x0 x1 x4 xs0))) := by
  unfold restRun.sl.v237 restRun.sl.HS4_2
  rw [View.readCov_cons_toLoadRect]
  rw [v193_eq]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_piece xb arg5 harg5 arg8 harg8 x4 xs0 _ (by decide) _ _ _ x

theorem v281_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v281 (F := Ideal) c arg1 harg1 arg2 harg2 arg5 harg5 arg8 harg8 arg9 arg12 x0 x1 x4 xs0 = (mx (hidI x0 x1 x4 xs0) 512 (by decide) ((mx (hidI x0 x1 x4 xs0) 256 (by decide) (am0 (hidI x0 x1 x4 xs0))))) := by
  unfold restRun.sl.v281 restRun.sl.HS4_3
  rw [View.readCov_cons_toLoadRect]
  rw [v237_eq]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_piece xb arg5 harg5 arg8 harg8 x4 xs0 _ (by decide) _ _ _ x

theorem v325_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v325 (F := Ideal) c arg1 harg1 arg2 harg2 arg5 harg5 arg8 harg8 arg9 arg12 x0 x1 x4 xs0 = (mx (hidI x0 x1 x4 xs0) 768 (by decide) ((mx (hidI x0 x1 x4 xs0) 512 (by decide) ((mx (hidI x0 x1 x4 xs0) 256 (by decide) (am0 (hidI x0 x1 x4 xs0))))))) := by
  unfold restRun.sl.v325 restRun.sl.HS4_4
  rw [View.readCov_cons_toLoadRect]
  unfold restRun.sl.r_6
  rw [v281_eq]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_piece xb arg5 harg5 arg8 harg8 x4 xs0 _ (by decide) _ _ _ x

theorem v369_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v369 (F := Ideal) c arg1 harg1 arg2 harg2 arg5 harg5 arg8 harg8 arg9 arg12 x0 x1 x4 xs0 = (mx (hidI x0 x1 x4 xs0) 1024 (by decide) ((mx (hidI x0 x1 x4 xs0) 768 (by decide) ((mx (hidI x0 x1 x4 xs0) 512 (by decide) ((mx (hidI x0 x1 x4 xs0) 256 (by decide) (am0 (hidI x0 x1 x4 xs0))))))))) := by
  unfold restRun.sl.v369 restRun.sl.HS4_5
  rw [View.readCov_cons_toLoadRect]
  rw [v325_eq]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_piece xb arg5 harg5 arg8 harg8 x4 xs0 _ (by decide) _ _ _ x

theorem v413_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v413 (F := Ideal) c arg1 harg1 arg2 harg2 arg5 harg5 arg8 harg8 arg9 arg12 x0 x1 x4 xs0 = (mx (hidI x0 x1 x4 xs0) 1280 (by decide) ((mx (hidI x0 x1 x4 xs0) 1024 (by decide) ((mx (hidI x0 x1 x4 xs0) 768 (by decide) ((mx (hidI x0 x1 x4 xs0) 512 (by decide) ((mx (hidI x0 x1 x4 xs0) 256 (by decide) (am0 (hidI x0 x1 x4 xs0))))))))))) := by
  unfold restRun.sl.v413 restRun.sl.HS4_6
  rw [View.readCov_cons_toLoadRect]
  rw [v369_eq]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_piece xb arg5 harg5 arg8 harg8 x4 xs0 _ (by decide) _ _ _ x

theorem v446_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v446 (F := Ideal) c arg1 harg1 arg2 harg2 arg5 harg5 arg8 harg8 arg9 arg12 x0 x1 x4 xs0 = (mx (hidI x0 x1 x4 xs0) 1536 (by decide) ((mx (hidI x0 x1 x4 xs0) 1280 (by decide) ((mx (hidI x0 x1 x4 xs0) 1024 (by decide) ((mx (hidI x0 x1 x4 xs0) 768 (by decide) ((mx (hidI x0 x1 x4 xs0) 512 (by decide) ((mx (hidI x0 x1 x4 xs0) 256 (by decide) (am0 (hidI x0 x1 x4 xs0))))))))))))) := by
  unfold restRun.sl.v446 restRun.sl.HS4_7
  rw [View.readCov_cons_toLoadRect]
  rw [v413_eq]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_piece xb arg5 harg5 arg8 harg8 x4 xs0 _ (by decide) _ _ _ x

theorem v451_eq (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) :
    restRun.sl.v451 (F := Ideal) c arg1 harg1 arg2 harg2 arg5 harg5 arg8 harg8 arg9 arg12 x0 x1 x4 xs0 = mxl (hidI x0 x1 x4 xs0) ((mx (hidI x0 x1 x4 xs0) 1536 (by decide) ((mx (hidI x0 x1 x4 xs0) 1280 (by decide) ((mx (hidI x0 x1 x4 xs0) 1024 (by decide) ((mx (hidI x0 x1 x4 xs0) 768 (by decide) ((mx (hidI x0 x1 x4 xs0) 512 (by decide) ((mx (hidI x0 x1 x4 xs0) 256 (by decide) (am0 (hidI x0 x1 x4 xs0)))))))))))))) := by
  unfold restRun.sl.v451 restRun.sl.HS4_8
  rw [View.readCov_cons_toLoadRect]
  rw [v446_eq]
  try unfold restRun.sl.r_3
  try unfold restRun.sl.r_5
  try unfold restRun.sl.r_7
  try unfold restRun.sl.r_8 restRun.sl.r_9
  unfold hidI
  rw [← v128_eq c arg1 harg1 arg2 harg2 arg9 x0 x1]
  generalize restRun.sl.v128 (F := Ideal) c arg1 harg1 arg2 harg2 arg9 x0 x1 = xb
  funext x
  exact am_last xb arg5 harg5 arg8 harg8 x4 xs0 _ _ _ x

/-- A row's largest absolute value. -/
def rowAbs (H : Vec Ideal S512x1920 .f32) (r : Fin 512) : EReal := Finset.univ.sup fun n : Fin 1920 => ab (H (ix2 (n0 := 512) (n1 := 1920) r n))

/-- The kernel's lane-wise running maximum, taken over the lanes, is the row's largest absolute value. -/
theorem lanes_sup (H : Vec Ideal S512x1920 .f32) (r : Fin 512) :
    (Finset.univ.sup fun l : Fin 128 => (mxl H (mx H 1536 (by decide) ((mx H 1280 (by decide) ((mx H 1024 (by decide) ((mx H 768 (by decide) ((mx H 512 (by decide) ((mx H 256 (by decide) (am0 H)))))))))))) (ix2 (n0 := 512) (n1 := 128) r l) : EReal)) = rowAbs H r := by
  unfold rowAbs
  refine eq_of_forall_ge_iff fun z => ?_
  simp only [Finset.sup_le_iff, Finset.mem_univ, true_imp_iff]
  show (∀ l : Fin 128, max (max (max (max (max (max (max (two H 0 _ _) (two H 256 _ _)) (two H 512 _ _)) (two H 768 _ _)) (two H 1024 _ _)) (two H 1280 _ _)) (two H 1536 _ _)) _ ≤ z) ↔ _
  unfold two
  simp only [max_le_iff]
  constructor
  · intro h n
    have hn := n.isLt
    have hl := h ⟨n.val % 128, Nat.mod_lt _ (by decide)⟩
    have key : ∀ k : ℕ, n.val / 128 = k → ∀ (hm : 128 * k + n.val % 128 < 1920),
        ab (H (ix2 (n0 := 512) (n1 := 1920) r ⟨128 * k + n.val % 128, hm⟩)) ≤ z → ab (H (ix2 (n0 := 512) (n1 := 1920) r n)) ≤ z := by
      intro k hk hm h'
      have e : n = ⟨128 * k + n.val % 128, hm⟩ := Fin.ext (by show n.val = 128 * k + n.val % 128; omega)
      rw [e]; exact h'
    obtain ⟨⟨⟨⟨⟨⟨⟨⟨a0, a1⟩, a2, a3⟩, a4, a5⟩, a6, a7⟩, a8, a9⟩, a10, a11⟩, a12, a13⟩, a14⟩ := hl
    have hq : n.val / 128 < 15 := by omega
    generalize hk : n.val / 128 = k at hq
    have hm : 128 * k + n.val % 128 < 1920 := by omega
    refine key k hk hm ?_
    clear key h
    interval_cases k
    all_goals assumption
  · intro h l
    refine ⟨⟨⟨⟨⟨⟨⟨⟨?_, ?_⟩, ?_, ?_⟩, ?_, ?_⟩, ?_, ?_⟩, ?_, ?_⟩, ?_, ?_⟩, ?_, ?_⟩, ?_⟩
    all_goals exact h _

end Cert.KernelIdeal.Body

end
-- ==== Proof.KiCodeVal.lean ====
module

public import proofs.«01_k».proof.Proof.KiBody
public import proofs.«01_k».proof.Proof.RowFns
public import proofs.«01_k».proof.Proof.KiDqVal
public import Idealize.ShloMosaic.Lib.Pointwise
public import Idealize.ShloMosaic.Lib.Pipeline.ValueKit.Tiles
public import Idealize.ShloMosaic.Lib.MatmulPlain

@[expose] public section

set_option maxRecDepth 16384

noncomputable section

namespace Cert.KernelIdeal.Body

open Cert.KernelIdeal.Gen
open Idealize.ShloMosaic hiding ix1 ix2 ix3 eq_ix2
open Idealize.ShloMosaic.TcCoe Idealize.ShloMosaic.Tactic Idealize.ShloMosaic.ValueIdx
open scoped BigOperators

local notation "EI" => Elt Ideal

/-- The codes: the block times each row's inverse scale, clipped to the format's finite range. -/
def codeI (h : Vec Ideal S512x1920 .f32) (iv : Vec Ideal S512x128 .f32) : Vec Ideal S512x1920 .fp8e4m3 := fun y =>
  Cert.RowFns.clip ((h y : EReal) * (iv (ix2 (n0 := 512) (n1 := 128) ⟨(y 0).val, by have := (y 0).isLt; exact this⟩
    ⟨(y 1).val % 128, Nat.mod_lt _ (by decide)⟩) : EReal))

theorem code_piece (arg10 : Memref sig .tc .vmem S512x1920 .f32) (harg10 : arg10.IsWhole) (arg11 : Memref sig .tc .vmem S512x128 .f32) (harg11 : arg11.IsWhole)
    (xs2 : Vec Ideal S512x1920 .f32) (xs3 : Vec Ideal S512x128 .f32) (B : ℕ) (hB : B % 128 = 0)
    (inb : ∀ d, (![0, B] : Fin 2 → ℕ) d + (![512, 128] : Fin 2 → ℕ) d ≤ S512x1920.size d)
    (inb' : ∀ d, (![0, 0] : Fin 2 → ℕ) d + S512x128.size d ≤ S512x128.size d)
    (x : (Rect.unit (s := S512x1920) ![0, B] ![512, 128] inb).shape.Idx) :
    k0_pay181 (F := Ideal) (View.readAt EI arg11.view (Rect.unit (s := S512x128) ![0, 0] S512x128.size inb').toLoadRect (harg11.unread xs3))
      (View.readAt EI arg10.view (Rect.unit (s := S512x1920) ![0, B] ![512, 128] inb).toLoadRect (harg10.unread xs2)) x
      = codeI xs2 xs3 ((Rect.unit (s := S512x1920) ![0, B] ![512, 128] inb).emb x) := by
  have h0 : (x 0).val < 512 := (x 0).isLt
  have h1 : (x 1).val < 128 := (x 1).isLt
  have e3 := readAt_unit arg10 harg10 xs2 ![0, B] ![512, 128] inb x ((Rect.unit (s := S512x1920) ![0, B] ![512, 128] inb).emb x)
    (fun d => by rw [Rect.emb_apply]; show _ + 1 * _ = _; rw [Nat.one_mul]; rfl)
  have e4 := readAt_unit arg11 harg11 xs3 ![0, 0] S512x128.size inb' x
    (ix2 (n0 := 512) (n1 := 128) ⟨(((Rect.unit (s := S512x1920) ![0, B] ![512, 128] inb).emb x) 0).val, by have := (((Rect.unit (s := S512x1920) ![0, B] ![512, 128] inb).emb x) 0).isLt; exact this⟩
      ⟨(((Rect.unit (s := S512x1920) ![0, B] ![512, 128] inb).emb x) 1).val % 128, Nat.mod_lt _ (by decide)⟩)
    (fun d => by
      match d with
      | ⟨0, _⟩ => show 0 + 1 * (x 0).val = 0 + (x 0).val; omega
      | ⟨1, _⟩ => show (B + 1 * (x 1).val) % 128 = 0 + (x 1).val; omega)
  unfold codeI Cert.RowFns.clip
  rw [← e3, ← e4]
  rfl

theorem code_eqI (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec Ideal S512x1152 .fp8e4m3) (x1 : Vec Ideal S512x9 .f32) (x4 : Vec Ideal S1x1920 .bf16) (xs0 : Vec Ideal S1152x1920 .bf16) (xs2 : Vec Ideal S512x1920 .f32) (xs3 : Vec Ideal S512x128 .f32) (f : arg6.view.ty.Contents EI) :
    arg6.view.read EI (arg6.view.writes EI f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.1) = codeI xs2 xs3 := by
  unfold restRun
  dsimp only
  sl_unfold_words
  funext y
  refine View.read_writes_apply_of_pieces _ _ (codeI xs2 xs3) _ ?_ y ?_
  · repeat' refine List.forall_mem_cons.mpr ⟨?_, ?_⟩
    all_goals first
      | (intro x; dsimp only; exact code_piece arg10 harg10 arg11 harg11 xs2 xs3 _ (by decide) _ _ x)
      | exact fun p hp => absurd hp List.not_mem_nil
  · exact View.cover_of_tiled _ ![512, 128] (by rfl) y

end Cert.KernelIdeal.Body

end
-- ==== Proof.KiVals.lean ====
module

public import proofs.«01_k».proof.Proof.KiBody
public import proofs.«01_k».proof.Proof.RowFns
public import proofs.«01_k».proof.Proof.KiAmax
public import proofs.«01_k».proof.Proof.KiCodeVal
public import Idealize.ShloMosaic.Lib.Pointwise
public import Idealize.ShloMosaic.Lib.Pipeline.ValueKit.Tiles
public import Idealize.ShloMosaic.Lib.MatmulPlain

@[expose] public section

set_option maxRecDepth 16384

noncomputable section

namespace Cert.KernelIdeal.Body

open Cert.KernelIdeal.Gen
open Idealize.ShloMosaic hiding ix1 ix2 ix3 eq_ix2
open Idealize.ShloMosaic.TcCoe Idealize.ShloMosaic.Tactic Idealize.ShloMosaic.ValueIdx
open scoped BigOperators

local notation "EI" => Elt Ideal

/-- The kernel's reciprocal of the format's largest number. -/
abbrev c448 : EReal := Ideal.ofBits .f32 0x3B124925#32

/-- The scales: one for each row. -/
def sclI (H : Vec Ideal S512x1920 .f32) : Vec Ideal S512x1 .f32 := fun y => Cert.RowFns.kScale (rowAbs H (y 0) * c448)
/-- The inverse scales: one for each row, the same in every lane. -/
def invI (H : Vec Ideal S512x1920 .f32) : Vec Ideal S512x128 .f32 := fun y => Cert.RowFns.kInv (rowAbs H (y 0) * c448)

/-- The quantiser's argument: the row's largest absolute value times the constant. -/
theorem pay219_eq (v : Vec Ideal S512x128 .f32) (H : Vec Ideal S512x1920 .f32)
    (hv : ∀ r : Fin 512, (Finset.univ.sup fun l : Fin 128 => (v (ix2 (n0 := 512) (n1 := 128) r l) : EReal)) = rowAbs H r) (r : Fin 512) (z : Fin 1) :
    k0_pay219 (F := Ideal) v (ix2 r z) = rowAbs H r * c448 := by
  obtain rfl : z = 0 := Subsingleton.elim _ _
  have e : shapeCast S512x1 (multiReduction (F := Ideal) (φ := .f32) .maximumf [1] S512 v 0xFF800000#32 reduces_S512x128_S512 (.inl rfl) rfl) shapeCasts_S512_S512x1 (ix2 r (0 : Fin 1))
      = (rowAbs H r : EReal) := by
    refine (shapeCast_apply _ _ _ (ix1 r) ?_).trans ?_
    · rfl
    · rw [← hv r]
      have h1 : multiReduction (F := Ideal) (φ := .f32) .maximumf [1] S512 v 0xFF800000#32 reduces_S512x128_S512 (.inl rfl) rfl (ix1 r)
          = (Finset.univ : Finset (Fin 128)).fold max (Ideal.ofBits .f32 0xFF800000#32) fun k => (v (ix2 (n0 := 512) (n1 := 128) r k) : EReal) := by
        show reduceFold reduces_S512x128_S512 (FloatOps.maximumf (F := Ideal) (φ := .f32)) (Ideal.ofBits .f32 0xFF800000#32) v (ix1 r) = _
        rw [reduceFold_eq_fold, Shape.Reduces.fold_fiber_r2_a1]
        rfl
      rw [h1, Cert.RowFns.wBot]
      rfl
  exact congrArg (· * c448) e

/-- One step of the search on a column of rows. -/
def vstp (v : FVec Ideal S512x1 .f32) (b : IVec S512x1 32) (d : BitVec 32) : IVec S512x1 32 :=
  select (cmpf .oge v (bitcastToFloat .f32 (shli (addi b (broadcast S512x1 d)) (broadcast S512x1 23#32)))) (addi b (broadcast S512x1 d)) b

theorem vstp_apply (v : FVec Ideal S512x1 .f32) (b : IVec S512x1 32) (d : BitVec 32) (x : S512x1.Idx) :
    vstp v b d x = Cert.RowFns.stp (v x) (b x) d := rfl

theorem pay222_eq (v : FVec Ideal S512x1 .f32) : k0_pay222 (F := Ideal) v k0_pay220 k0_pay221
    = vstp v (vstp v (vstp v (vstp v (vstp v (vstp v (broadcast S512x1 0#32) 128#32) 64#32) 32#32) 16#32) 8#32) 4#32 := rfl

theorem pay1_eq (v : FVec Ideal S512x1 .f32) : k0_pay1 (F := Ideal) v (k0_pay222 v k0_pay220 k0_pay221) (k0_pay223 v k0_pay220 k0_pay221) (k0_pay224 v k0_pay220 k0_pay221)
    = select (cmpf .oeq v (broadcast S512x1 (Scalar.ofBits .f32 0x00000000#32))) (broadcast S512x1 0#32)
        (subi (vstp v (vstp v (k0_pay222 (F := Ideal) v k0_pay220 k0_pay221) 2#32) 1#32) (broadcast S512x1 126#32)) := by
  unfold k0_pay224 k0_pay223
  generalize k0_pay222 (F := Ideal) v k0_pay220 k0_pay221 = b
  rfl

theorem pay1_apply (v : FVec Ideal S512x1 .f32) (x : S512x1.Idx) :
    k0_pay1 (F := Ideal) v (k0_pay222 v k0_pay220 k0_pay221) (k0_pay223 v k0_pay220 k0_pay221) (k0_pay224 v k0_pay220 k0_pay221) x = Cert.RowFns.kExp (v x) := by
  rw [pay1_eq, pay222_eq]
  have h : Cert.RowFns.kBits (v x) = vstp v (vstp v (vstp v (vstp v (vstp v (vstp v (vstp v (vstp v (broadcast S512x1 0#32) 128#32) 64#32) 32#32) 16#32) 8#32) 4#32) 2#32) 1#32 x := by
    rw [vstp_apply, vstp_apply, vstp_apply, vstp_apply, vstp_apply, vstp_apply, vstp_apply, vstp_apply]
    rfl
  unfold Cert.RowFns.kExp
  rw [h]
  generalize vstp v _ 1#32 = b
  rfl

theorem scl_of (v : FVec Ideal S512x1 .f32) (y : S512x1.Idx) :
    k0_pay2 (F := Ideal) v (k0_pay222 v k0_pay220 k0_pay221) (k0_pay223 v k0_pay220 k0_pay221) (k0_pay224 v k0_pay220 k0_pay221) y
      = Cert.RowFns.kScale (v y) := by
  unfold k0_pay2 Cert.RowFns.kScale
  rw [← pay1_apply]
  generalize k0_pay1 (F := Ideal) v _ _ _ = e
  rfl

theorem inv_of (v : FVec Ideal S512x1 .f32) (r : Fin 512) (l : Fin 128) :
    k0_pay3 (F := Ideal) v (k0_pay222 v k0_pay220 k0_pay221) (k0_pay223 v k0_pay220 k0_pay221) (k0_pay224 v k0_pay220 k0_pay221) (ix2 r l)
      = Cert.RowFns.kInv (v (ix2 r (0 : Fin 1))) := by
  unfold k0_pay3
  rw [shapeCast_self, shapeCast_self]
  unfold Cert.RowFns.kInv
  rw [← pay1_apply]
  generalize k0_pay1 (F := Ideal) v _ _ _ = e
  refine (broadcastTo_apply _ _ _ (ix2 r (0 : Fin 1)) fun a => ?_).trans rfl
  match a with
  | ⟨0, _⟩ => rfl
  | ⟨1, _⟩ => rfl

theorem r12_at (c : Dev nD) (arg1 : Memref sig .tc .vmem S512x1152 .fp8e4m3) (harg1 : arg1.IsWhole) (arg2 : Memref sig .tc .vmem S512x9 .f32) (harg2 : arg2.IsWhole)
    (arg5 : Memref sig .tc .vmem S1x1920 .bf16) (harg5 : arg5.IsWhole) (arg8 : Memref sig .tc .vmem S1152x1920 .bf16) (harg8 : arg8.IsWhole)
    (arg9 : Memref sig .tc .vmem S512x1152 .bf16) (arg12 : Memref sig .tc .vmem S512x128 .f32) (x0 : Vec Ideal S512x1152 .fp8e4m3) (x1 : Vec Ideal S512x9 .f32) (x4 : Vec Ideal S1x1920 .bf16) (xs0 : Vec Ideal S1152x1920 .bf16) (r : Fin 512) (z : Fin 1) :
    restRun.sl.r_12 (F := Ideal) c arg1 harg1 arg2 harg2 arg5 harg5 arg8 harg8 arg9 arg12 x0 x1 x4 xs0 (ix2 r z) = rowAbs (hidI x0 x1 x4 xs0) r * c448 := by
  unfold restRun.sl.r_12
  rw [v451_eq]
  exact pay219_eq _ _ (lanes_sup (hidI x0 x1 x4 xs0)) r z

theorem scl_eqI (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec Ideal S512x1152 .fp8e4m3) (x1 : Vec Ideal S512x9 .f32) (x4 : Vec Ideal S1x1920 .bf16) (xs0 : Vec Ideal S1152x1920 .bf16) (xs2 : Vec Ideal S512x1920 .f32) (xs3 : Vec Ideal S512x128 .f32) (f : arg7.view.ty.Contents EI) :
    arg7.view.read EI (arg7.view.writes EI f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.2.1) = sclI (hidI x0 x1 x4 xs0) := by
  unfold restRun
  dsimp only
  unfold restRun.sl.r_13 restRun.sl.r_14 restRun.sl.r_15
  funext y
  refine View.read_writes_apply_of_pieces _ _ (sclI (hidI x0 x1 x4 xs0)) _ ?_ y ?_
  · refine List.forall_mem_cons.mpr ⟨?_, fun p hp => absurd hp List.not_mem_nil⟩
    intro x
    dsimp only
    obtain ⟨r, z, rfl⟩ : ∃ (r : Fin 512) (z : Fin 1), x = ix2 r z := ⟨x 0, x 1, eq_ix2 x⟩
    refine (scl_of _ _).trans ?_
    rw [r12_at]
    unfold sclI
    refine congrArg (fun r => Cert.RowFns.kScale (rowAbs (hidI x0 x1 x4 xs0) r * c448)) (Fin.ext ?_)
    show r.val = 0 + 1 * r.val
    omega
  · exact View.cover_of_tiled _ ![512, 1] (by rfl) y

theorem inv_eqI (c : Dev nD) (i : grid0.Coords) (arg1 : Memref sig .tc .vmem S512x1152 .fp8e4m3) (harg1 : arg1.IsWhole) (arg2 : Memref sig .tc .vmem S512x9 .f32) (harg2 : arg2.IsWhole) (arg3 : Memref sig .tc .vmem S1152x1920 .fp8e4m3) (harg3 : arg3.IsWhole) (arg4 : Memref sig .tc .smem S9x15 .f32) (harg4 : arg4.IsWhole) (arg5 : Memref sig .tc .vmem S1x1920 .bf16) (harg5 : arg5.IsWhole) (arg6 : Memref sig .tc .vmem S512x1920 .fp8e4m3) (harg6 : arg6.IsWhole) (arg7 : Memref sig .tc .vmem S512x1 .f32) (harg7 : arg7.IsWhole) (arg8 : Memref sig .tc .vmem S1152x1920 .bf16) (harg8 : arg8.IsWhole) (arg9 : Memref sig .tc .vmem S512x1152 .bf16) (harg9 : arg9.IsWhole) (arg10 : Memref sig .tc .vmem S512x1920 .f32) (harg10 : arg10.IsWhole) (arg11 : Memref sig .tc .vmem S512x128 .f32) (harg11 : arg11.IsWhole) (arg12 : Memref sig .tc .vmem S512x128 .f32) (harg12 : arg12.IsWhole) (hc0 : ¬cond0_0 i)
    (x0 : Vec Ideal S512x1152 .fp8e4m3) (x1 : Vec Ideal S512x9 .f32) (x4 : Vec Ideal S1x1920 .bf16) (xs0 : Vec Ideal S1152x1920 .bf16) (xs2 : Vec Ideal S512x1920 .f32) (xs3 : Vec Ideal S512x128 .f32) (f : arg11.view.ty.Contents EI) :
    arg11.view.read EI (arg11.view.writes EI f (restRun c i arg1 harg1 arg2 harg2 arg3 harg3 arg4 harg4 arg5 harg5 arg6 harg6 arg7 harg7 arg8 harg8 arg9 harg9 arg10 harg10 arg11 harg11 arg12 harg12 hc0 x0 x1 x4 xs0 xs2 xs3).1.2.2.2) = invI (hidI x0 x1 x4 xs0) := by
  unfold restRun
  dsimp only
  unfold restRun.sl.r_13 restRun.sl.r_14 restRun.sl.r_15
  funext y
  refine View.read_writes_apply_of_pieces _ _ (invI (hidI x0 x1 x4 xs0)) _ ?_ y ?_
  · refine List.forall_mem_cons.mpr ⟨?_, fun p hp => absurd hp List.not_mem_nil⟩
    intro x
    dsimp only
    obtain ⟨r, z, rfl⟩ : ∃ (r : Fin 512) (z : Fin 128), x = ix2 r z := ⟨x 0, x 1, eq_ix2 x⟩
    refine (inv_of _ _ _).trans ?_
    rw [r12_at]
    unfold invI
    refine congrArg (fun r => Cert.RowFns.kInv (rowAbs (hidI x0 x1 x4 xs0) r * c448)) (Fin.ext ?_)
    show r.val = 0 + 1 * r.val
    omega
  · exact View.cover_of_tiled _ ![512, 128] (by rfl) y

/-- What the body computes over the extended reals. -/
def idealVals : Vals Ideal where
  dq := dqI
  hid := hidI
  code := codeI
  scl := sclI
  inv := invI
  dq_eq := dq_eqI
  code_eq := code_eqI
  scl_eq := scl_eqI
  hid_eq := hid_eqI
  inv_eq := inv_eqI

end Cert.KernelIdeal.Body

end
-- ==== Proof.KiFrame.lean ====
module

public import proofs.«01_k».proof.Proof.KiBody
public import Idealize.ShloMosaic.Lib.Pipeline.DatRel
public import Idealize.ShloMosaic.Lib.Pipeline.ArrRel

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Vals F) (m : (ℓ : Loc nD τ sig) → Buf (Elt F) ℓ) (ρ : Dev nD → PrngReg)

/-- The grid's first point. -/
def p0 : Fin cfg0.N := ⟨0, by rw [show cfg0.N = 13 from N_0]; omega⟩
/-- The grid's second point. -/
def p1 : Fin cfg0.N := ⟨1, by rw [show cfg0.N = 13 from N_0]; omega⟩

/-- The dequantised weights on core `c`. -/
def wts (c : Dev nD) : Vec F S1152x1920 .bf16 := W.dq (iblk m c 2 p0) (iblk m c 3 p0)

/-- The hidden block the body computes at point `t` on core `c`. -/
def blk (c : Dev nD) (t : Fin cfg0.N) : Vec F S512x1920 .f32 := W.hid (iblk m c 0 t) (iblk m c 1 t) (iblk m c 4 t) (wts W m c)

/-- What a core holds between points: before the first point every scratch at anything; afterwards the weights dequantised
    and the hidden block of the point before with its inverse scales. -/
def PhiS (c : Dev nD) : (n : ℕ) → n ≤ cfg0.N → sProp 𝕄
  | 0, _ => Pipeline.ΦA spec0 c
  | n + 1, hn => iprop(iprop(owns (c : Thread nD τ) scM0_0 fullShare (wts W m c) ∗ (∃ d, owns (c : Thread nD τ) scM0_1 fullShare d) ∗ owns (c : Thread nD τ) scM0_2 fullShare (blk W m c ⟨n, hn⟩) ∗ owns (c : Thread nD τ) scM0_3 fullShare (W.inv (blk W m c ⟨n, hn⟩)) ∗ (∃ d, owns (c : Thread nD τ) scM0_4 fullShare d)) ∗ (∃ r, prngReg c r))

theorem PhiS_zero (c : Dev nD) (n : ℕ) (h : n ≤ cfg0.N) (hz : n = 0) : PhiS W m c n h = Pipeline.ΦA spec0 c := by
  subst hz; rfl

theorem PhiS_succ (c : Dev nD) (n : ℕ) (hn : n < cfg0.N) :
    PhiS W m c (n + 1) hn = iprop(iprop(owns (c : Thread nD τ) scM0_0 fullShare (wts W m c) ∗ (∃ d, owns (c : Thread nD τ) scM0_1 fullShare d) ∗ owns (c : Thread nD τ) scM0_2 fullShare (blk W m c ⟨n, hn⟩) ∗ owns (c : Thread nD τ) scM0_3 fullShare (W.inv (blk W m c ⟨n, hn⟩)) ∗ (∃ d, owns (c : Thread nD τ) scM0_4 fullShare d)) ∗ (∃ r, prngReg c r)) := rfl

theorem PhiS_pos (c : Dev nD) (n : ℕ) (h : n ≤ cfg0.N) (hz : n ≠ 0) :
    PhiS W m c n h = iprop(iprop(owns (c : Thread nD τ) scM0_0 fullShare (wts W m c) ∗ (∃ d, owns (c : Thread nD τ) scM0_1 fullShare d) ∗ owns (c : Thread nD τ) scM0_2 fullShare (blk W m c ⟨n - 1, by omega⟩) ∗ owns (c : Thread nD τ) scM0_3 fullShare (W.inv (blk W m c ⟨n - 1, by omega⟩)) ∗ (∃ d, owns (c : Thread nD τ) scM0_4 fullShare d)) ∗ (∃ r, prngReg c r)) := by
  cases n with
  | zero => exact absurd rfl hz
  | succ n => rfl

/-- The two output windows are held to a relation. -/
def marks0 : Fin 7 → Bool := fun w => w.val == 5 || w.val == 6

/-- What the body leaves in an output window at a point: the codes of the block of the point before, the scales of its own. -/
def Rl (c : Dev nD) : (w : Fin cfg0.W) → Fin cfg0.N → ((cfg0.win w).block.Idx → Elt F (cfg0.win w).elt) → Prop
  | ⟨5, _⟩ => fun t X => ∀ h : t.val ≠ 0, X = W.code (blk W m c ⟨t.val - 1, by omega⟩) (W.inv (blk W m c ⟨t.val - 1, by omega⟩))
  | ⟨6, _⟩ => fun t X => X = W.scl (blk W m c t)
  | _ => fun _ _ => True

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := PhiS W m c t.val (Nat.le_of_lt_succ t.isLt)
  q _ := fullShare
  owed _ := 0

theorem A_eq (c : Dev nD) (w : Fin cfg0.W) : (dats W m 0 c).A w = V m c (Pipeline.arrRef spec0 w) := by
  dsimp only [dats]

theorem PhiS_castSucc (c : Dev nD) (t : Fin cfg0.N) :
    (dats W m 0 c).Φ t.castSucc = PhiS W m c t.val (Nat.le_of_lt t.isLt) := by
  dsimp only [dats]; exact Pipeline.Dat.Φ_castSucc (PhiS W m c) t

theorem after0_0 (c : Dev nD) (t : Fin cfg0.N) : (dats W m 0 c).after 0 t = iblk m c 0 t := by dsimp only [dats]
theorem after0_1 (c : Dev nD) (t : Fin cfg0.N) : (dats W m 0 c).after 1 t = iblk m c 1 t := by dsimp only [dats]
theorem after0_2 (c : Dev nD) (t : Fin cfg0.N) : (dats W m 0 c).after 2 t = iblk m c 2 t := by dsimp only [dats]
theorem after0_3 (c : Dev nD) (t : Fin cfg0.N) : (dats W m 0 c).after 3 t = iblk m c 3 t := by dsimp only [dats]
theorem after0_4 (c : Dev nD) (t : Fin cfg0.N) : (dats W m 0 c).after 4 t = iblk m c 4 t := by dsimp only [dats]

theorem before0_0 (c : Dev nD) (t : Fin cfg0.N) (d) : (dats W m 0 c).before 0 t d = iblk m c 0 t :=
  before0_0_of m (dats W m 0 c) (A_eq W m c 0) (after0_0 W m c) t d
theorem before0_1 (c : Dev nD) (t : Fin cfg0.N) (d) : (dats W m 0 c).before 1 t d = iblk m c 1 t :=
  before0_1_of m (dats W m 0 c) (A_eq W m c 1) (after0_1 W m c) t d
theorem before0_2 (c : Dev nD) (t : Fin cfg0.N) (d) : (dats W m 0 c).before 2 t d = iblk m c 2 t :=
  before0_2_of m (dats W m 0 c) (A_eq W m c 2) (after0_2 W m c) t d
theorem before0_3 (c : Dev nD) (t : Fin cfg0.N) (d) : (dats W m 0 c).before 3 t d = iblk m c 3 t :=
  before0_3_of m (dats W m 0 c) (A_eq W m c 3) (after0_3 W m c) t d
theorem before0_4 (c : Dev nD) (t : Fin cfg0.N) (d) : (dats W m 0 c).before 4 t d = iblk m c 4 t :=
  before0_4_of m (dats W m 0 c) (A_eq W m c 4) (after0_4 W m c) t d

/-- What the body is called with at point `t`, -/
def bodyPre (c : Dev nD) (t : Fin cfg0.N) : sProp 𝕄 :=
  iprop((dats W m 0 c).Φ t.castSucc ∗ (dats W m 0 c).owesAt () t.castSucc
    ∗ (∃ d, owns (c : Thread nD τ) (ms0_0 t) fullShare ((dats W m 0 c).before 0 t d))
    ∗ (∃ d, owns (c : Thread nD τ) (ms0_1 t) fullShare ((dats W m 0 c).before 1 t d))
    ∗ (∃ d, owns (c : Thread nD τ) (ms0_2 t) fullShare ((dats W m 0 c).before 2 t d))
    ∗ (∃ d, owns (c : Thread nD τ) (ms0_3 t) fullShare ((dats W m 0 c).before 3 t d))
    ∗ (∃ d, owns (c : Thread nD τ) (ms0_4 t) fullShare ((dats W m 0 c).before 4 t d))
    ∗ (∃ Y, ⌜((dats W m 0 c).toRRel marks0 (Rl W m c)).Finds 5 t Y⌝ ∗ owns (c : Thread nD τ) (ms0_5 t) fullShare Y)
    ∗ (∃ Y, ⌜((dats W m 0 c).toRRel marks0 (Rl W m c)).Finds 6 t Y⌝ ∗ owns (c : Thread nD τ) (ms0_6 t) fullShare Y))

/-- and what it returns. -/
def bodyPost (c : Dev nD) (t : Fin cfg0.N) : sProp 𝕄 :=
  iprop((dats W m 0 c).Φ t.succ ∗ (dats W m 0 c).owesAt () t.succ
    ∗ owns (c : Thread nD τ) (ms0_0 t) fullShare ((dats W m 0 c).after 0 t)
    ∗ owns (c : Thread nD τ) (ms0_1 t) fullShare ((dats W m 0 c).after 1 t)
    ∗ owns (c : Thread nD τ) (ms0_2 t) fullShare ((dats W m 0 c).after 2 t)
    ∗ owns (c : Thread nD τ) (ms0_3 t) fullShare ((dats W m 0 c).after 3 t)
    ∗ owns (c : Thread nD τ) (ms0_4 t) fullShare ((dats W m 0 c).after 4 t)
    ∗ (∃ X, ⌜Rl W m c 5 t X⌝ ∗ owns (c : Thread nD τ) (ms0_5 t) fullShare X)
    ∗ (∃ X, ⌜Rl W m c 6 t X⌝ ∗ owns (c : Thread nD τ) (ms0_6 t) fullShare X))

set_option maxHeartbeats 3200000 in
/-- The body at any point. -/
theorem sound_body (c : Dev nD) (t : Fin cfg0.N) :
    bodyPre W m c t ⊢ wp frame (wpE (defs₀ (F := F)) Variants.none c none) Set.univ (bodyAt0 t) (fun _ => bodyPost W m c t) := by
  unfold bodyPre bodyPost bodyAt0
  simp only [before0_0, before0_1, before0_2, before0_3, before0_4]
  rw [show (dats W m 0 c).owesAt () t.succ = (dats W m 0 c).owesAt () t.castSucc from rfl,
    after0_0, after0_1, after0_2, after0_3, after0_4]
  rw [show (dats W m 0 c).Φ t.succ = PhiS W m c (t.val + 1) t.isLt from rfl, PhiS_succ]
  have hN : t.val < 13 := lt_of_lt_of_eq t.isLt (show cfg0.N = 13 from N_0)
  by_cases hz : t.val = 0
  · obtain rfl : t = p0 := Fin.ext hz
    rw [PhiS_castSucc W m c p0, PhiS_zero W m c _ _ hz, PhiA0_eq]
    iintro ⟨⟨⟨HS0, HS1, ⟨%e2, HS2⟩, ⟨%e3, HS3⟩, HS4⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (first_body W c (grid0.coords p0) (grid0.coords p1) _ _ _ _ _ _ _ _ _ _ _ _ _ _ _ _ _ _ _ _ _ _ _ _ ((hcond0_0 p0).mpr rfl) (fun h => absurd ((hcond0_0 p1).mp h) (by decide)) (iblk m c 0 p0) (iblk m c 1 p0) (iblk m c 4 p0) (iblk m c 2 p0) (iblk m c 3 p0) e2 e3 Set.univ _)
    isplitl [H0]; · iexact H0
    isplitl [H1]; · iexact H1
    isplitl [H4]; · iexact H4
    isplitl [H2]; · iexact H2
    isplitl [H3]; · iexact H3
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H2, H3, H0, H1, H4, H5, H6, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact fun h => absurd hz h
    iexists _; isplitr; swap; · iexact H6
    ipureintro; exact rfl
  · rw [PhiS_castSucc W m c t, PhiS_pos W m c _ _ hz]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (rest_body W c (grid0.coords t) _ _ _ _ _ _ _ _ _ _ _ _ _ _ _ _ _ _ _ _ _ _ _ _ (fun h => absurd ((hcond0_0 t).mp h) (by omega)) (iblk m c 0 t) (iblk m c 1 t) (iblk m c 4 t) (wts W m c) (blk W m c ⟨t.val - 1, by omega⟩) (W.inv (blk W m c ⟨t.val - 1, by omega⟩)) Set.univ _)
    isplitl [H0]; · iexact H0
    isplitl [H1]; · iexact H1
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H4, H5, H6, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact fun _ => rfl
    iexists _; isplitr; swap; · iexact H6
    ipureintro; exact rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats W m 0 c) (defs₀ (F := F)) Variants.none () Set.univ marks0 (Rl W m c) := fun t => by
  rw [bigSep_W0, bigSep_W0, defs₀_row]
  exact triple_restated (sound_body W m c t) rfl .rfl fun _ => .rfl

theorem hin (c : Dev nD) : Pipeline.ΦA spec0 c ⊢ (dats W m 0 c).Φ 0 := by
  rw [show (dats W m 0 c).Φ 0 = PhiS W m c 0 (Nat.zero_le _) from rfl, PhiS_zero W m c 0 _ rfl]

/-- After the last point the named contents are forgotten. -/
theorem hout (c : Dev nD) : (dats W m 0 c).Φ (Fin.last cfg0.N) ⊢ Pipeline.ΦA spec0 c := by
  have ht : (Fin.last cfg0.N).val ≠ 0 := by rw [Fin.val_last]; have : cfg0.N = 13 := N_0; omega
  rw [show (dats W m 0 c).Φ (Fin.last cfg0.N) = PhiS W m c (Fin.last cfg0.N).val (Nat.le_of_lt_succ (Fin.last cfg0.N).isLt) from rfl, PhiS_pos W m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexists _; iexact HS2
    isplitl [HS3]
    · iexists _; iexact HS3
    iexact HS4
  iexact Hg

set_option backward.isDefEq.respectTransparency.types false in
/-- The run of @main: every final state has each array at something the relation allows, and every counter at zero. -/
theorem run_main : θ_run defs (onTc (τ := τ) (main (F := F))) (s₀ m ρ) (fun r => (Pipeline.RDat.FramePost (cfgs 0) (fun c => (dats W m 0 c).toRRel marks0 (Rl W m c)) (V m)) r ∧ r.2.sem = fun _ => 0) :=
  Pipeline.RDat.θ_run_frame_track (Q' := _) cfgs (0 : Fin 1) launch0 defs₀ Variants.none (fun c => (dats W m 0 c).toRRel marks0 (Rl W m c)) m ρ main
    (hbody := fun c => (body_obligation W m c).toRRel) (hshare := fun c => (dats W m 0 c).share_full fun _ => rfl)
    (howed := fun _ _ => rfl) (V := V m) (hmain := hmain m Variants.none) (hA := A_eq W m) (hin := hin W m) (hout := hout W m)

/-- The argument arrays end as they were launched. -/
theorem args_kept (r : PUnit × MemSt nD τ sig (Elt F)) (h : (Pipeline.RDat.FramePost (cfgs 0) (fun c => (dats W m 0 c).toRRel marks0 (Rl W m c)) (V m)) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq W m c 2).trans (V_main_arg2 m c)),
      (Pipeline.RDat.FramePost.arr_in h c 3 rfl).trans ((A_eq W m c 3).trans (V_main_arg3 m c)),
      ((h c).2 main_arg4 (Pipeline.mem_restRefs_of main_arg4 (by decide) (by decide))).trans (V_main_arg4 m c)⟩

end Cert.KernelIdeal.Body

end
-- ==== Proof.KiArrays.lean ====
module

public import proofs.«01_k».proof.Proof.KiVals
public import proofs.«01_k».proof.Proof.KiFrame
public import proofs.«01_k».proof.Proof.Spec
public import Idealize.ShloMosaic.Lib.Pipeline.ArrRel
public import Idealize.ShloMosaic.Lib.Pipeline.ValueKit.Geometry

@[expose] public section

set_option maxRecDepth 16384

noncomputable section

/-! # What the kernel's two result arrays hold at the end -/

namespace Cert.KernelIdeal.Body

open Cert.KernelIdeal.Gen
open Idealize.ShloMosaic hiding ix1 ix2 ix3 eq_ix2
open Idealize.ShloMosaic.TcCoe Idealize.ShloMosaic.Tactic Idealize.ShloMosaic.ValueIdx
open scoped BigOperators

variable (m : (ℓ : Loc nD τ sig) → Buf (Elt Ideal) ℓ) (ρ : Dev nD → PrngReg)

/-! ## The windows' blocks at coordinates -/

theorem index0 : ∀ t : Fin cfg0.N, win0_0.index t = ![min t.val 11, 0] := (by decide +kernel : ∀ t : Fin grid0.N, _)
theorem index1 : ∀ t : Fin cfg0.N, win0_1.index t = ![min t.val 11, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val - 1, 0] := (by decide +kernel : ∀ t : Fin grid0.N, _)
theorem index6 : ∀ t : Fin cfg0.N, win0_6.index t = ![min t.val 11, 0] := (by decide +kernel : ∀ t : Fin grid0.N, _)

/-- The code window writes back at no point but those after the first. -/
theorem flush5 : ∀ t : Fin cfg0.N, win0_5.flush t = true → t.val ≠ 0 := (by decide +kernel : ∀ t : Fin grid0.N, win0_5.flush t = true → t.val ≠ 0)

/-- The row of the whole array under row `r` of point `t`'s block. -/
abbrev rowAt (t : ℕ) (r : Fin 512) : Fin 6144 := ⟨min t 11 * 512 + r.val, by omega⟩

theorem iblk0_apply (c : Dev nD) (t : Fin cfg0.N) (r : Fin 512) (k : Fin 1152) :
    iblk m c 0 t (ix2 r k) = V m c main_v0 (ix2 (rowAt t.val r) k) := by
  blk_simp [iblk]
  blk_ext [index0]
theorem iblk1_apply (c : Dev nD) (t : Fin cfg0.N) (r : Fin 512) (k : Fin 9) :
    iblk m c 1 t (ix2 r k) = V m c main_v1 (ix2 (rowAt t.val r) k) := by
  blk_simp [iblk]
  blk_ext [index1]
theorem iblk2_apply (c : Dev nD) (t : Fin cfg0.N) (k : Fin 1152) (n : Fin 1920) :
    iblk m c 2 t (ix2 k n) = V m c main_arg2 (ix2 k n) := by
  blk_simp [iblk]
  blk_ext [index2]
theorem iblk3_apply (c : Dev nD) (t : Fin cfg0.N) (k : Fin 9) (n : Fin 15) :
    iblk m c 3 t (ix2 k n) = V m c main_arg3 (ix2 k n) := by
  blk_simp [iblk]
  blk_ext [index3]
theorem iblk4_apply (c : Dev nD) (t : Fin cfg0.N) (k : Fin 1) (n : Fin 1920) :
    iblk m c 4 t (ix2 k n) = V m c main_v2 (ix2 k n) := by
  blk_simp [iblk]
  blk_ext [index4]

/-- The hidden activations of the whole problem, of core `c`'s arrays as the call finds them. -/
def hidAll (c : Dev nD) : Fin 6144 → Fin 1920 → EReal :=
  Cert.Spec.hidden (V m c main_v0) (V m c main_v1) (V m c main_arg2) (V m c main_arg3) (V m c main_v2)

theorem hidI_apply (x0 : Vec Ideal S512x1152 .fp8e4m3) (x1 : Vec Ideal S512x9 .f32) (x4 : Vec Ideal S1x1920 .bf16) (w : Vec Ideal S1152x1920 .fp8e4m3)
    (s : Vec Ideal S9x15 .f32) (r : Fin 512) (n : Fin 1920) :
    hidI x0 x1 x4 (dqI w s) (ix2 r n) = Cert.RowFns.gel ((∑ k : Fin 1152, ((x0 (ix2 r k) : EReal) * x1 (ix2 r ⟨k.val / 128, by omega⟩))
      * ((w (ix2 k n) : EReal) * s (ix2 ⟨k.val / 128, by omega⟩ ⟨n.val / 128, by omega⟩))) + x4 (ix2 0 n)) := rfl

/-- Point `t`'s block of hidden activations is its rows of the whole problem's. -/
theorem blk_apply (c : Dev nD) (t : Fin cfg0.N) (r : Fin 512) (n : Fin 1920) :
    blk idealVals m c t (ix2 r n) = hidAll m c (rowAt t.val r) n := by
  have e : blk idealVals m c t (ix2 r n) = hidI (iblk m c 0 t) (iblk m c 1 t) (iblk m c 4 t) (dqI (iblk m c 2 p0) (iblk m c 3 p0)) (ix2 r n) := rfl
  rw [e, hidI_apply]
  unfold hidAll Cert.Spec.hidden
  rw [iblk4_apply]
  refine congrArg Cert.RowFns.gel (congrArg (· + _) (Finset.sum_congr rfl fun k _ => ?_))
  rw [iblk0_apply, iblk1_apply, iblk2_apply, iblk3_apply]

/-- A block's row has the same largest absolute value as the row of the whole problem. -/
theorem rowAbs_blk (c : Dev nD) (t : Fin cfg0.N) (r : Fin 512) :
    rowAbs (blk idealVals m c t) r = Cert.Spec.rowMax (hidAll m c (rowAt t.val r)) := by
  unfold rowAbs Cert.Spec.rowMax
  refine Finset.sup_congr rfl fun n _ => ?_
  rw [blk_apply]; rfl

/-- The scales that point `t` leaves are its rows of the whole problem's. -/
theorem scl_blk (c : Dev nD) (t : Fin cfg0.N) (r : Fin 512) (z : Fin 1) :
    idealVals.scl (blk idealVals m c t) (ix2 r z) = Cert.Spec.scales (hidAll m c) (ix2 (rowAt t.val r) z) := by
  show Cert.RowFns.kScale (rowAbs (blk idealVals m c t) r * c448) = _
  rw [rowAbs_blk]; rfl

/-- The codes made of point `t`'s block are its rows of the whole problem's. -/
theorem code_blk (c : Dev nD) (t : Fin cfg0.N) (r : Fin 512) (n : Fin 1920) :
    idealVals.code (blk idealVals m c t) (idealVals.inv (blk idealVals m c t)) (ix2 r n) = Cert.Spec.codes (hidAll m c) (ix2 (rowAt t.val r) n) := by
  show Cert.RowFns.clip (blk idealVals m c t (ix2 r n) * Cert.RowFns.kInv (rowAbs (blk idealVals m c t) r * c448)) = _
  rw [rowAbs_blk, blk_apply]; rfl

/-- At the end the two result arrays hold the codes and the scales of the whole problem. -/
theorem results (r : PUnit × MemSt nD τ sig (Elt Ideal))
    (h : (Pipeline.RDat.FramePost (cfgs 0) (fun c => (dats idealVals m 0 c).toRRel marks0 (Rl idealVals m c)) (V m)) r) (c : Dev nD) :
    r.2.mem ((c.tc : Thread nD τ).loc main_v3_0) = Cert.Spec.codes (hidAll m c)
    ∧ r.2.mem ((c.tc : Thread nD τ).loc main_v3_1) = Cert.Spec.scales (hidAll m c) := by
  obtain ⟨after, hL, hA⟩ := Pipeline.RDat.FramePost.exists_exact h c
  refine ⟨(hA 5).trans ?_, (hA 6).trans ?_⟩
  · refine Pipeline.Dat.arrAt_eq_of_covers _ 5 _ (by decide +kernel) fun t hf y => ?_
    have e := Pipeline.Dat.toRRel_leaves _ (w := 5) rfl (hL 5 t hf)
    have ht : t.val ≠ 0 := flush5 t hf
    have e' := e ht
    blk_simp
    rw [Pipeline.RDat.withAfter_after, e']
    obtain ⟨r, n, rfl⟩ : ∃ (r : Fin 512) (n : Fin 1920), y = ix2 r n := ⟨y 0, y 1, eq_ix2 y⟩
    refine (code_blk m c _ r n).trans (congrArg _ ?_)
    have hN : t.val < 13 := lt_of_lt_of_eq t.isLt (show cfg0.N = 13 from N_0)
    blk_ext [index5]
    show min (t.val - 1) 11 * 512 + r.val = (t.val - 1) * 512 + r.val
    omega
  · refine Pipeline.Dat.arrAt_eq_of_covers _ 6 _ (by decide +kernel) fun t hf y => ?_
    have e := Pipeline.Dat.toRRel_leaves _ (w := 6) rfl (hL 6 t hf)
    blk_simp
    rw [Pipeline.RDat.withAfter_after, show after 6 t = _ from e]
    obtain ⟨r, n, rfl⟩ : ∃ (r : Fin 512) (n : Fin 1), y = ix2 r n := ⟨y 0, y 1, eq_ix2 y⟩
    refine (scl_blk m c _ r n).trans (congrArg _ ?_)
    blk_ext [index6]

/-- The kernel's run: the two results, the arguments as they were, and every counter at zero. -/
theorem run_values : θ_run defs (onTc (τ := τ) (main (F := Ideal))) ⟨m, fun _ => 0, ρ⟩ fun r => ∀ c : Dev nD,
      r.2.mem ((c.tc : Thread nD τ).loc main_v3_0) = Cert.Spec.codes (hidAll m c)
      ∧ r.2.mem ((c.tc : Thread nD τ).loc main_v3_1) = Cert.Spec.scales (hidAll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(results m r h.1 c).1, (results m r h.1 c).2, args_kept idealVals m r h.1 c⟩) (run_main idealVals m ρ)

end Cert.KernelIdeal.Body

end
-- ==== Proof.Hosts.lean ====
module

public import proofs.«01_k».proof.Proof.RefArrays
public import proofs.«01_k».proof.Proof.KiArrays

@[expose] public section

set_option maxRecDepth 16384

noncomputable section

/-! # The two programs hand the same arrays to their calls -/

namespace Cert.Hosts

open Idealize.ShloMosaic hiding ix1 ix2 ix3 eq_ix2
open Idealize.ShloMosaic.TcCoe Idealize.ShloMosaic.Tactic Idealize.ShloMosaic.ValueIdx
open scoped BigOperators

/-- A scale for each group of 128 columns, written out for each column. -/
theorem spreadCols (x : Cert.Spec.Mat 6144 9) (h1) (h2) (r : Fin 6144) (k : Fin 1152) :
    shapeCast Cert.ReferenceIdeal.S6144x1152 (broadcastInDim (s := Cert.ReferenceIdeal.S6144x9) Cert.ReferenceIdeal.S6144x9x128 ![0, 1] h1 x)
      h2 (ix2 r k) = x (ix2 r ⟨k.val / 128, by omega⟩) := by
  refine (shapeCast_apply _ _ (ix2 r k) (ix3 r (⟨k.val / 128, by omega⟩ : Fin 9) (⟨k.val % 128, by omega⟩ : Fin 128)) ?_).trans ?_
  · rw [Shape.rowMajor_val_two, Shape.rowMajor_val_three]
    show (r.val * 9 + k.val / 128) * 128 + k.val % 128 = r.val * 1152 + k.val
    omega
  · refine broadcastInDim_apply _ _ _ _ (ix2 r (⟨k.val / 128, by omega⟩ : Fin 9)) fun a => ?_
    match a with
    | ⟨0, _⟩ => rfl
    | ⟨1, _⟩ => rfl

/-- The weight scales' columns, each written out for its group of 128 columns. -/
theorem spreadWide (x : Cert.Spec.Mat 1152 15) (h1) (h2) (k : Fin 1152) (n : Fin 1920) :
    shapeCast Cert.ReferenceIdeal.S1152x1920 (broadcastInDim (s := Cert.ReferenceIdeal.S1152x15) Cert.ReferenceIdeal.S1152x15x128 ![0, 1] h1 x)
      h2 (ix2 k n) = x (ix2 k ⟨n.val / 128, by omega⟩) := by
  refine (shapeCast_apply _ _ (ix2 k n) (ix3 k (⟨n.val / 128, by omega⟩ : Fin 15) (⟨n.val % 128, by omega⟩ : Fin 128)) ?_).trans ?_
  · rw [Shape.rowMajor_val_two, Shape.rowMajor_val_three]
    show (k.val * 15 + n.val / 128) * 128 + n.val % 128 = k.val * 1920 + n.val
    omega
  · refine broadcastInDim_apply _ _ _ _ (ix2 k (⟨n.val / 128, by omega⟩ : Fin 15)) fun a => ?_
    match a with
    | ⟨0, _⟩ => rfl
    | ⟨1, _⟩ => rfl

/-- The weight scales' rows, each written out for its group of 128 rows. -/
theorem spreadTall (x : Cert.Spec.Mat 9 15) (h1) (h2) (k : Fin 1152) (b : Fin 15) :
    shapeCast Cert.ReferenceIdeal.S1152x15 (broadcastInDim (s := Cert.ReferenceIdeal.S9x15) Cert.ReferenceIdeal.S9x128x15 ![0, 2] h1 x)
      h2 (ix2 k b) = x (ix2 ⟨k.val / 128, by omega⟩ b) := by
  refine (shapeCast_apply _ _ (ix2 k b) (ix3 (⟨k.val / 128, by omega⟩ : Fin 9) (⟨k.val % 128, by omega⟩ : Fin 128) b) ?_).trans ?_
  · rw [Shape.rowMajor_val_two, Shape.rowMajor_val_three]
    show (k.val / 128 * 128 + k.val % 128) * 15 + b.val = k.val * 15 + b.val
    omega
  · refine broadcastInDim_apply _ _ _ _ (ix2 (⟨k.val / 128, by omega⟩ : Fin 9) b) fun a => ?_
    match a with
    | ⟨0, _⟩ => rfl
    | ⟨1, _⟩ => rfl

/-- The hidden activations from the five arguments: the activations and their scales flattened to one row for each
    position, the bias written as one row. -/
def hiddenOf (A0 : Cert.KernelIdeal.S3x2048x1152.Idx → EReal) (A1 : Cert.KernelIdeal.S3x2048x9.Idx → EReal) (A2 : Cert.Spec.Mat 1152 1920)
    (A3 : Cert.Spec.Mat 9 15) (A4 : Cert.KernelIdeal.S1920.Idx → EReal) : Fin 6144 → Fin 1920 → EReal :=
  Cert.Spec.hidden (shapeCast Cert.KernelIdeal.S6144x1152 A0 Cert.KernelIdeal.Gen.shapeCasts_S3x2048x1152_S6144x1152)
    (shapeCast Cert.KernelIdeal.S6144x9 A1 Cert.KernelIdeal.Gen.shapeCasts_S3x2048x9_S6144x9) A2 A3
    (shapeCast Cert.KernelIdeal.S1x1920 A4 Cert.KernelIdeal.Gen.shapeCasts_S1920_S1x1920)

section kernel

variable (m : (ℓ : Loc Cert.KernelIdeal.nD Cert.KernelIdeal.τ Cert.KernelIdeal.sig) → Buf (Elt Ideal) ℓ)

open Cert.KernelIdeal in
theorem kernel_v0 (c : Dev nD) : Gen.V m c main_v0 = shapeCast S6144x1152 (m ((c.tc : Thread nD τ).loc main_arg0)) Gen.shapeCasts_S3x2048x1152_S6144x1152 := by
  entry_read
  rfl

open Cert.KernelIdeal in
theorem kernel_v1 (c : Dev nD) : Gen.V m c main_v1 = shapeCast S6144x9 (m ((c.tc : Thread nD τ).loc main_arg1)) Gen.shapeCasts_S3x2048x9_S6144x9 := by
  entry_read
  rfl

open Cert.KernelIdeal in
theorem kernel_v2 (c : Dev nD) : Gen.V m c main_v2 = shapeCast S1x1920 (m ((c.tc : Thread nD τ).loc main_arg4)) Gen.shapeCasts_S1920_S1x1920 := by
  entry_read
  rfl

open Cert.KernelIdeal in
/-- The kernel's hidden activations, from its arguments. -/
theorem kernel_hidden (c : Dev nD) : Body.hidAll m c = hiddenOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Body.hidAll hiddenOf
  rw [kernel_v0, kernel_v1, kernel_v2, Gen.V_main_arg2, Gen.V_main_arg3]

end kernel

section reference

variable (m : (ℓ : Loc Cert.ReferenceIdeal.nD Cert.ReferenceIdeal.τ Cert.ReferenceIdeal.sig) → Buf (Elt Ideal) ℓ)

open Cert.ReferenceIdeal in
theorem reference_v9 (c : Dev nD) : Gen.V m c main_v9 = shapeCast S6144x1152 (m ((c.tc : Thread nD τ).loc main_arg0)) Gen.shapeCasts_S3x2048x1152_S6144x1152 := by
  entry_read
  rfl

open Cert.ReferenceIdeal in
theorem reference_v10 (c : Dev nD) : Gen.V m c main_v10 = shapeCast S1x1920 (m ((c.tc : Thread nD τ).loc main_arg4)) Gen.shapeCasts_S1920_S1x1920 := by
  entry_read
  rfl

open Cert.ReferenceIdeal in
theorem reference_v3 (c : Dev nD) (r : Fin 6144) (k : Fin 1152) : Gen.V m c main_v3 (ix2 r k)
    = shapeCast S6144x9 (m ((c.tc : Thread nD τ).loc main_arg1)) Gen.shapeCasts_S3x2048x9_S6144x9 (ix2 r (⟨k.val / 128, by omega⟩ : Fin 9)) := by
  entry_read
  exact spreadCols _ _ _ r k

open Cert.ReferenceIdeal in
theorem reference_v8 (c : Dev nD) (k : Fin 1152) (n : Fin 1920) : Gen.V m c main_v8 (ix2 k n)
    = m ((c.tc : Thread nD τ).loc main_arg3) (ix2 (⟨k.val / 128, by omega⟩ : Fin 9) (⟨n.val / 128, by omega⟩ : Fin 15)) := by
  entry_read
  exact (spreadWide _ _ _ k n).trans (spreadTall _ _ _ k _)

open Cert.ReferenceIdeal in
/-- The reference's hidden activations, from its arguments. -/
theorem reference_hidden (c : Dev nD) : Read.hidAll m c = hiddenOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  funext r n
  unfold Read.hidAll hiddenOf Read.hidR Cert.Spec.hidden
  rw [reference_v9, reference_v10, Gen.V_main_arg2]
  refine congrArg Cert.RowFns.gel (congrArg (· + _) (Finset.sum_congr rfl fun k _ => ?_))
  rw [reference_v3, reference_v8]

end reference

end Cert.Hosts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KnFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Hosts
public import Idealize.ShloMosaic.Adequacy
public import Idealize.ShloMosaic.Init

@[expose] public section

noncomputable section

namespace Cert.Proof

open Idealize.ShloMosaic Idealize.SL.Sem Cert.Kernel

/-- The ideal kernel terminates without fault, leaves its arguments as they were and every counter at zero. -/
theorem kernel_frame : Cert.quiescent_KernelIdeal (hKernelIdeal := Cert.KernelIdeal.Gen.facts) := fun m ρ _ =>
  (θ_run _ _ _).mono (fun r h => ⟨Cert.KernelIdeal.Body.args_kept Cert.KernelIdeal.Body.idealVals m r h.1, h.2⟩)
    (Cert.KernelIdeal.Body.run_main Cert.KernelIdeal.Body.idealVals m ρ)

/-- From equal arguments the kernel and the reference end with equal codes and equal scales. -/
theorem same_results : Cert.algebraic_KernelIdeal_ReferenceIdeal (hKernelIdeal := Cert.KernelIdeal.Gen.facts)
    (hReferenceIdeal := Cert.ReferenceIdeal.Gen.facts) := fun m g m' g' _ hargs => by
  have hid : ∀ c, Cert.ReferenceIdeal.Read.hidAll m' c = Cert.KernelIdeal.Body.hidAll m c := fun c => by
    rw [Cert.Hosts.kernel_hidden, Cert.Hosts.reference_hidden, (hargs c).1, (hargs c).2.1, (hargs c).2.2.1, (hargs c).2.2.2.1, (hargs c).2.2.2.2]
  refine ⟨fun c => Cert.Spec.codes (Cert.KernelIdeal.Body.hidAll m c), fun c => Cert.Spec.scales (Cert.KernelIdeal.Body.hidAll m c),
    Cert.KernelIdeal.Body.run_values m g, ?_⟩
  refine (θ_run _ _ _).mono (fun r h c => ?_) (Cert.ReferenceIdeal.Read.run_values m' g')
  obtain ⟨h0, h1, hk⟩ := h c
  exact ⟨h0.trans (congrArg Cert.Spec.codes (hid c)), h1.trans (congrArg Cert.Spec.scales (hid c)), hk⟩

/-- Everything claimed. -/
theorem claim : Cert.Claim := ⟨Cert.Kernel.Gen.facts, Cert.KernelIdeal.Gen.facts, Cert.ReferenceIdeal.Gen.facts,
  fun m ρ _ => Cert.Kernel.Whole.frame m ρ, kernel_frame, fun m ρ _ => Cert.ReferenceIdeal.Gen.frame m ρ, trivial, same_results⟩

end Cert.Proof

end
